-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x2048 : Shape := ⟨3, ![2, 2048, 2048]⟩
abbrev S2x2048 : Shape := ⟨2, ![2, 2048]⟩
abbrev S8192x1024 : Shape := ⟨2, ![8192, 1024]⟩
abbrev S4096 : Shape := ⟨1, ![4096]⟩
abbrev S1024x1024 : Shape := ⟨2, ![1024, 1024]⟩
abbrev S144 : Shape := ⟨1, ![144]⟩
abbrev S6x16x1024 : Shape := ⟨3, ![6, 16, 1024]⟩
abbrev S16x1024 : Shape := ⟨2, ![16, 1024]⟩
abbrev S_ : Shape := ⟨0, ![]⟩
abbrev S128 : Shape := ⟨1, ![128]⟩
abbrev S1x16x1024 : Shape := ⟨3, ![1, 16, 1024]⟩
abbrev S16 : Shape := ⟨1, ![16]⟩
abbrev S1 : Shape := ⟨1, ![1]⟩
abbrev S1x1x16 : Shape := ⟨3, ![1, 1, 16]⟩

abbrev nBuf : Table → Nat
  | .hbm => 10
  | .local .scVector .vmem => 3
  | _ => 0

abbrev bufTy : (tb : Table) → Fin (nBuf tb) → BufTy
  | .hbm, ⟨0, _⟩ => ⟨S2x2048x2048, .f32⟩
  | .hbm, ⟨1, _⟩ => ⟨S2x2048x2048, .f32⟩
  | .hbm, ⟨2, _⟩ => ⟨S2x2048, .i1⟩
  | .hbm, ⟨3, _⟩ => ⟨S8192x1024, .f32⟩
  | .hbm, ⟨4, _⟩ => ⟨S8192x1024, .f32⟩
  | .hbm, ⟨5, _⟩ => ⟨S4096, .i1⟩
  | .hbm, ⟨6, _⟩ => ⟨S4096, .f32⟩
  | .hbm, ⟨7, _⟩ => ⟨S8192x1024, .f32⟩
  | .hbm, ⟨8, _⟩ => ⟨S1024x1024, .f32⟩
  | .hbm, ⟨9, _⟩ => ⟨S2x2048x2048, .f32⟩
  | .local .scVector .vmem, ⟨0, _⟩ => ⟨S144, .f32⟩
  | .local .scVector .vmem, ⟨1, _⟩ => ⟨S6x16x1024, .f32⟩
  | .local .scVector .vmem, ⟨2, _⟩ => ⟨S16x1024, .f32⟩
  | _, _ => ⟨S2x2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v0_scv : Ref sig .scVector := ⟨.hbm, 3, rfl⟩
abbrev main_v1_scv : Ref sig .scVector := ⟨.hbm, 4, rfl⟩
abbrev main_v3_scv : Ref sig .scVector := ⟨.hbm, 6, rfl⟩
abbrev main_v4_0_scv : Ref sig .scVector := ⟨.hbm, 7, rfl⟩
abbrev main_v4_1_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) (c0_i32 : BitVec 32) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.muli c2_i32_0 v1
  let v5 : BitVec 32 := Scalar.addi v4 c0_i32
  let c16_i32 : BitVec 32 := 16#32
  let v6 : BitVec 32 := Scalar.muli v5 c16_i32
  let c0_i32_1 : BitVec 32 := 0#32
  ![v6.toNat, 0]
def k0_off3 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  let c15_i32 : BitVec 32 := 15#32
  let v14 : BitVec 32 := Scalar.minsi c0_i32_7 c15_i32
  let c16_i32_8 : BitVec 32 := 16#32
  let v15 : BitVec 32 := Scalar.muli v14 c16_i32_8
  let v16 : BitVec 32 := Scalar.addi v3 v15
  let c0_i32_12 : BitVec 32 := 0#32
  ![v16.toNat, 0]
@[reducible] def k0_t1_loop : Scf.Loop 32 :=
  let c0_i32_40 : BitVec 32 := 0#32
  let c8_i32 : BitVec 32 := 8#32
  let v44 : BitVec 32 := Scalar.addi c0_i32_40 c8_i32
  let c1_i32_41 : BitVec 32 := 1#32
  ⟨c0_i32_40, v44, c1_i32_41⟩
def k0_off4 (k0_t1 : Fin k0_t1_loop.trips) : Fin 1 → Nat :=
  let c0_i32_40 : BitVec 32 := 0#32
  let c1_i32_41 : BitVec 32 := 1#32
  let arg16 : BitVec 32 := Scf.iv c0_i32_40 c1_i32_41 k0_t1
  let c2_i32_95 : BitVec 32 := 2#32
  let v81 : BitVec 32 := Scalar.muli arg16 c2_i32_95
  let c8_i32_123 : BitVec 32 := 8#32
  let v100 : BitVec 32 := Scalar.muli v81 c8_i32_123
  let v101 : Index := Scalar.indexCast v100
  ![v101.toNat]
@[reducible] def k0_t2_loop : Scf.Loop 32 :=
  let c0_i32_125 : BitVec 32 := 0#32
  let c64_i32 : BitVec 32 := 64#32
  let v128 : BitVec 32 := Scalar.addi c0_i32_125 c64_i32
  let c1_i32_126 : BitVec 32 := 1#32
  ⟨c0_i32_125, v128, c1_i32_126⟩
def k0_off5 (k0_t2 : Fin k0_t2_loop.trips) : Fin 3 → Nat :=
  let c0_i32_214 : BitVec 32 := 0#32
  let v227 : Index := Scalar.indexCast c0_i32_214
  let c0_i32_215 : BitVec 32 := 0#32
  let v228 : Index := Scalar.indexCast c0_i32_215
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v229 : Index := Scalar.indexCast v226
  ![0, 0, v229.toNat]
def k0_off6 (k0_t2 : Fin k0_t2_loop.trips) : Fin 3 → Nat :=
  let c2_i32_216 : BitVec 32 := 2#32
  let v232 : Index := Scalar.indexCast c2_i32_216
  let c0_i32_217 : BitVec 32 := 0#32
  let v233 : Index := Scalar.indexCast c0_i32_217
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v234 : Index := Scalar.indexCast v226
  ![2, 0, v234.toNat]
def k0_off7 (k0_t2 : Fin k0_t2_loop.trips) : Fin 3 → Nat :=
  let c4_i32_218 : BitVec 32 := 4#32
  let v239 : Index := Scalar.indexCast c4_i32_218
  let c0_i32_219 : BitVec 32 := 0#32
  let v240 : Index := Scalar.indexCast c0_i32_219
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v241 : Index := Scalar.indexCast v226
  ![4, 0, v241.toNat]
def k0_off8 (k0_t2 : Fin k0_t2_loop.trips) : Fin 3 → Nat :=
  let c0_i32_220 : BitVec 32 := 0#32
  let v245 : Index := Scalar.indexCast c0_i32_220
  let c1_i32_221 : BitVec 32 := 1#32
  let v246 : Index := Scalar.indexCast c1_i32_221
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v247 : Index := Scalar.indexCast v226
  ![0, 1, v247.toNat]
def k0_off9 (k0_t2 : Fin k0_t2_loop.trips) : Fin 3 → Nat :=
  let c2_i32_222 : BitVec 32 := 2#32
  let v250 : Index := Scalar.indexCast c2_i32_222
  let c1_i32_223 : BitVec 32 := 1#32
  let v251 : Index := Scalar.indexCast c1_i32_223
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v252 : Index := Scalar.indexCast v226
  ![2, 1, v252.toNat]
def k0_off10 (k0_t2 : Fin k0_t2_loop.trips) : Fin 3 → Nat :=
  let c4_i32_224 : BitVec 32 := 4#32
  let v257 : Index := Scalar.indexCast c4_i32_224
  let c1_i32_225 : BitVec 32 := 1#32
  let v258 : Index := Scalar.indexCast c1_i32_225
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v259 : Index := Scalar.indexCast v226
  ![4, 1, v259.toNat]
def k0_off11 (k0_t2 : Fin k0_t2_loop.trips) : Fin 3 → Nat :=
  let c0_i32_226 : BitVec 32 := 0#32
  let v263 : Index := Scalar.indexCast c0_i32_226
  let c2_i32_227 : BitVec 32 := 2#32
  let v264 : Index := Scalar.indexCast c2_i32_227
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v265 : Index := Scalar.indexCast v226
  ![0, 2, v265.toNat]
def k0_off12 (k0_t2 : Fin k0_t2_loop.trips) : Fin 3 → Nat :=
  let c2_i32_228 : BitVec 32 := 2#32
  let v268 : Index := Scalar.indexCast c2_i32_228
  let c2_i32_229 : BitVec 32 := 2#32
  let v269 : Index := Scalar.indexCast c2_i32_229
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v270 : Index := Scalar.indexCast v226
  ![2, 2, v270.toNat]
def k0_off13 (k0_t2 : Fin k0_t2_loop.trips) : Fin 3 → Nat :=
  let c4_i32_230 : BitVec 32 := 4#32
  let v275 : Index := Scalar.indexCast c4_i32_230
  let c2_i32_231 : BitVec 32 := 2#32
  let v276 : Index := Scalar.indexCast c2_i32_231
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v277 : Index := Scalar.indexCast v226
  ![4, 2, v277.toNat]
def k0_off14 (k0_t2 : Fin k0_t2_loop.trips) : Fin 3 → Nat :=
  let c0_i32_232 : BitVec 32 := 0#32
  let v281 : Index := Scalar.indexCast c0_i32_232
  let c3_i32_233 : BitVec 32 := 3#32
  let v282 : Index := Scalar.indexCast c3_i32_233
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v283 : Index := Scalar.indexCast v226
  ![0, 3, v283.toNat]
def k0_off15 (k0_t2 : Fin k0_t2_loop.trips) : Fin 3 → Nat :=
  let c2_i32_234 : BitVec 32 := 2#32
  let v286 : Index := Scalar.indexCast c2_i32_234
  let c3_i32_235 : BitVec 32 := 3#32
  let v287 : Index := Scalar.indexCast c3_i32_235
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v288 : Index := Scalar.indexCast v226
  ![2, 3, v288.toNat]
def k0_off16 (k0_t2 : Fin k0_t2_loop.trips) : Fin 3 → Nat :=
  let c4_i32_236 : BitVec 32 := 4#32
  let v293 : Index := Scalar.indexCast c4_i32_236
  let c3_i32_237 : BitVec 32 := 3#32
  let v294 : Index := Scalar.indexCast c3_i32_237
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v295 : Index := Scalar.indexCast v226
  ![4, 3, v295.toNat]
def k0_off17 (k0_t2 : Fin k0_t2_loop.trips) : Fin 3 → Nat :=
  let c0_i32_238 : BitVec 32 := 0#32
  let v299 : Index := Scalar.indexCast c0_i32_238
  let c4_i32_239 : BitVec 32 := 4#32
  let v300 : Index := Scalar.indexCast c4_i32_239
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v301 : Index := Scalar.indexCast v226
  ![0, 4, v301.toNat]
def k0_off18 (k0_t2 : Fin k0_t2_loop.trips) : Fin 3 → Nat :=
  let c2_i32_240 : BitVec 32 := 2#32
  let v304 : Index := Scalar.indexCast c2_i32_240
  let c4_i32_241 : BitVec 32 := 4#32
  let v305 : Index := Scalar.indexCast c4_i32_241
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v306 : Index := Scalar.indexCast v226
  ![2, 4, v306.toNat]
def k0_off19 (k0_t2 : Fin k0_t2_loop.trips) : Fin 3 → Nat :=
  let c4_i32_242 : BitVec 32 := 4#32
  let v311 : Index := Scalar.indexCast c4_i32_242
  let c4_i32_243 : BitVec 32 := 4#32
  let v312 : Index := Scalar.indexCast c4_i32_243
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v313 : Index := Scalar.indexCast v226
  ![4, 4, v313.toNat]
def k0_off20 (k0_t2 : Fin k0_t2_loop.trips) : Fin 3 → Nat :=
  let c0_i32_244 : BitVec 32 := 0#32
  let v317 : Index := Scalar.indexCast c0_i32_244
  let c5_i32_245 : BitVec 32 := 5#32
  let v318 : Index := Scalar.indexCast c5_i32_245
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v319 : Index := Scalar.indexCast v226
  ![0, 5, v319.toNat]
def k0_off21 (k0_t2 : Fin k0_t2_loop.trips) : Fin 3 → Nat :=
  let c2_i32_246 : BitVec 32 := 2#32
  let v322 : Index := Scalar.indexCast c2_i32_246
  let c5_i32_247 : BitVec 32 := 5#32
  let v323 : Index := Scalar.indexCast c5_i32_247
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v324 : Index := Scalar.indexCast v226
  ![2, 5, v324.toNat]
def k0_off22 (k0_t2 : Fin k0_t2_loop.trips) : Fin 3 → Nat :=
  let c4_i32_248 : BitVec 32 := 4#32
  let v329 : Index := Scalar.indexCast c4_i32_248
  let c5_i32_249 : BitVec 32 := 5#32
  let v330 : Index := Scalar.indexCast c5_i32_249
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v331 : Index := Scalar.indexCast v226
  ![4, 5, v331.toNat]
def k0_off23 (k0_t2 : Fin k0_t2_loop.trips) : Fin 3 → Nat :=
  let c0_i32_250 : BitVec 32 := 0#32
  let v335 : Index := Scalar.indexCast c0_i32_250
  let c6_i32 : BitVec 32 := 6#32
  let v336 : Index := Scalar.indexCast c6_i32
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v337 : Index := Scalar.indexCast v226
  ![0, 6, v337.toNat]
def k0_off24 (k0_t2 : Fin k0_t2_loop.trips) : Fin 3 → Nat :=
  let c2_i32_251 : BitVec 32 := 2#32
  let v340 : Index := Scalar.indexCast c2_i32_251
  let c6_i32_252 : BitVec 32 := 6#32
  let v341 : Index := Scalar.indexCast c6_i32_252
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v342 : Index := Scalar.indexCast v226
  ![2, 6, v342.toNat]
def k0_off25 (k0_t2 : Fin k0_t2_loop.trips) : Fin 3 → Nat :=
  let c4_i32_253 : BitVec 32 := 4#32
  let v347 : Index := Scalar.indexCast c4_i32_253
  let c6_i32_254 : BitVec 32 := 6#32
  let v348 : Index := Scalar.indexCast c6_i32_254
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v349 : Index := Scalar.indexCast v226
  ![4, 6, v349.toNat]
def k0_off26 (k0_t2 : Fin k0_t2_loop.trips) : Fin 3 → Nat :=
  let c0_i32_255 : BitVec 32 := 0#32
  let v353 : Index := Scalar.indexCast c0_i32_255
  let c7_i32 : BitVec 32 := 7#32
  let v354 : Index := Scalar.indexCast c7_i32
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v355 : Index := Scalar.indexCast v226
  ![0, 7, v355.toNat]
def k0_off27 (k0_t2 : Fin k0_t2_loop.trips) : Fin 3 → Nat :=
  let c2_i32_256 : BitVec 32 := 2#32
  let v358 : Index := Scalar.indexCast c2_i32_256
  let c7_i32_257 : BitVec 32 := 7#32
  let v359 : Index := Scalar.indexCast c7_i32_257
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v360 : Index := Scalar.indexCast v226
  ![2, 7, v360.toNat]
def k0_off28 (k0_t2 : Fin k0_t2_loop.trips) : Fin 3 → Nat :=
  let c4_i32_258 : BitVec 32 := 4#32
  let v365 : Index := Scalar.indexCast c4_i32_258
  let c7_i32_259 : BitVec 32 := 7#32
  let v366 : Index := Scalar.indexCast c7_i32_259
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v367 : Index := Scalar.indexCast v226
  ![4, 7, v367.toNat]
def k0_off29 (k0_t2 : Fin k0_t2_loop.trips) : Fin 3 → Nat :=
  let c0_i32_260 : BitVec 32 := 0#32
  let v371 : Index := Scalar.indexCast c0_i32_260
  let c8_i32_261 : BitVec 32 := 8#32
  let v372 : Index := Scalar.indexCast c8_i32_261
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v373 : Index := Scalar.indexCast v226
  ![0, 8, v373.toNat]
def k0_off30 (k0_t2 : Fin k0_t2_loop.trips) : Fin 3 → Nat :=
  let c2_i32_262 : BitVec 32 := 2#32
  let v376 : Index := Scalar.indexCast c2_i32_262
  let c8_i32_263 : BitVec 32 := 8#32
  let v377 : Index := Scalar.indexCast c8_i32_263
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v378 : Index := Scalar.indexCast v226
  ![2, 8, v378.toNat]
def k0_off31 (k0_t2 : Fin k0_t2_loop.trips) : Fin 3 → Nat :=
  let c4_i32_264 : BitVec 32 := 4#32
  let v383 : Index := Scalar.indexCast c4_i32_264
  let c8_i32_265 : BitVec 32 := 8#32
  let v384 : Index := Scalar.indexCast c8_i32_265
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v385 : Index := Scalar.indexCast v226
  ![4, 8, v385.toNat]
def k0_off32 (k0_t2 : Fin k0_t2_loop.trips) : Fin 3 → Nat :=
  let c0_i32_266 : BitVec 32 := 0#32
  let v389 : Index := Scalar.indexCast c0_i32_266
  let c9_i32 : BitVec 32 := 9#32
  let v390 : Index := Scalar.indexCast c9_i32
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v391 : Index := Scalar.indexCast v226
  ![0, 9, v391.toNat]
def k0_off33 (k0_t2 : Fin k0_t2_loop.trips) : Fin 3 → Nat :=
  let c2_i32_267 : BitVec 32 := 2#32
  let v394 : Index := Scalar.indexCast c2_i32_267
  let c9_i32_268 : BitVec 32 := 9#32
  let v395 : Index := Scalar.indexCast c9_i32_268
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v396 : Index := Scalar.indexCast v226
  ![2, 9, v396.toNat]
def k0_off34 (k0_t2 : Fin k0_t2_loop.trips) : Fin 3 → Nat :=
  let c4_i32_269 : BitVec 32 := 4#32
  let v401 : Index := Scalar.indexCast c4_i32_269
  let c9_i32_270 : BitVec 32 := 9#32
  let v402 : Index := Scalar.indexCast c9_i32_270
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v403 : Index := Scalar.indexCast v226
  ![4, 9, v403.toNat]
def k0_off35 (k0_t2 : Fin k0_t2_loop.trips) : Fin 3 → Nat :=
  let c0_i32_271 : BitVec 32 := 0#32
  let v407 : Index := Scalar.indexCast c0_i32_271
  let c10_i32 : BitVec 32 := 10#32
  let v408 : Index := Scalar.indexCast c10_i32
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v409 : Index := Scalar.indexCast v226
  ![0, 10, v409.toNat]
def k0_off36 (k0_t2 : Fin k0_t2_loop.trips) : Fin 3 → Nat :=
  let c2_i32_272 : BitVec 32 := 2#32
  let v412 : Index := Scalar.indexCast c2_i32_272
  let c10_i32_273 : BitVec 32 := 10#32
  let v413 : Index := Scalar.indexCast c10_i32_273
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v414 : Index := Scalar.indexCast v226
  ![2, 10, v414.toNat]
def k0_off37 (k0_t2 : Fin k0_t2_loop.trips) : Fin 3 → Nat :=
  let c4_i32_274 : BitVec 32 := 4#32
  let v419 : Index := Scalar.indexCast c4_i32_274
  let c10_i32_275 : BitVec 32 := 10#32
  let v420 : Index := Scalar.indexCast c10_i32_275
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v421 : Index := Scalar.indexCast v226
  ![4, 10, v421.toNat]
def k0_off38 (k0_t2 : Fin k0_t2_loop.trips) : Fin 3 → Nat :=
  let c0_i32_276 : BitVec 32 := 0#32
  let v425 : Index := Scalar.indexCast c0_i32_276
  let c11_i32 : BitVec 32 := 11#32
  let v426 : Index := Scalar.indexCast c11_i32
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v427 : Index := Scalar.indexCast v226
  ![0, 11, v427.toNat]
def k0_off39 (k0_t2 : Fin k0_t2_loop.trips) : Fin 3 → Nat :=
  let c2_i32_277 : BitVec 32 := 2#32
  let v430 : Index := Scalar.indexCast c2_i32_277
  let c11_i32_278 : BitVec 32 := 11#32
  let v431 : Index := Scalar.indexCast c11_i32_278
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v432 : Index := Scalar.indexCast v226
  ![2, 11, v432.toNat]
def k0_off40 (k0_t2 : Fin k0_t2_loop.trips) : Fin 3 → Nat :=
  let c4_i32_279 : BitVec 32 := 4#32
  let v437 : Index := Scalar.indexCast c4_i32_279
  let c11_i32_280 : BitVec 32 := 11#32
  let v438 : Index := Scalar.indexCast c11_i32_280
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v439 : Index := Scalar.indexCast v226
  ![4, 11, v439.toNat]
def k0_off41 (k0_t2 : Fin k0_t2_loop.trips) : Fin 3 → Nat :=
  let c0_i32_281 : BitVec 32 := 0#32
  let v443 : Index := Scalar.indexCast c0_i32_281
  let c12_i32 : BitVec 32 := 12#32
  let v444 : Index := Scalar.indexCast c12_i32
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v445 : Index := Scalar.indexCast v226
  ![0, 12, v445.toNat]
def k0_off42 (k0_t2 : Fin k0_t2_loop.trips) : Fin 3 → Nat :=
  let c2_i32_282 : BitVec 32 := 2#32
  let v448 : Index := Scalar.indexCast c2_i32_282
  let c12_i32_283 : BitVec 32 := 12#32
  let v449 : Index := Scalar.indexCast c12_i32_283
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v450 : Index := Scalar.indexCast v226
  ![2, 12, v450.toNat]
def k0_off43 (k0_t2 : Fin k0_t2_loop.trips) : Fin 3 → Nat :=
  let c4_i32_284 : BitVec 32 := 4#32
  let v455 : Index := Scalar.indexCast c4_i32_284
  let c12_i32_285 : BitVec 32 := 12#32
  let v456 : Index := Scalar.indexCast c12_i32_285
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v457 : Index := Scalar.indexCast v226
  ![4, 12, v457.toNat]
def k0_off44 (k0_t2 : Fin k0_t2_loop.trips) : Fin 3 → Nat :=
  let c0_i32_286 : BitVec 32 := 0#32
  let v461 : Index := Scalar.indexCast c0_i32_286
  let c13_i32 : BitVec 32 := 13#32
  let v462 : Index := Scalar.indexCast c13_i32
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v463 : Index := Scalar.indexCast v226
  ![0, 13, v463.toNat]
def k0_off45 (k0_t2 : Fin k0_t2_loop.trips) : Fin 3 → Nat :=
  let c2_i32_287 : BitVec 32 := 2#32
  let v466 : Index := Scalar.indexCast c2_i32_287
  let c13_i32_288 : BitVec 32 := 13#32
  let v467 : Index := Scalar.indexCast c13_i32_288
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v468 : Index := Scalar.indexCast v226
  ![2, 13, v468.toNat]
def k0_off46 (k0_t2 : Fin k0_t2_loop.trips) : Fin 3 → Nat :=
  let c4_i32_289 : BitVec 32 := 4#32
  let v473 : Index := Scalar.indexCast c4_i32_289
  let c13_i32_290 : BitVec 32 := 13#32
  let v474 : Index := Scalar.indexCast c13_i32_290
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v475 : Index := Scalar.indexCast v226
  ![4, 13, v475.toNat]
def k0_off47 (k0_t2 : Fin k0_t2_loop.trips) : Fin 3 → Nat :=
  let c0_i32_291 : BitVec 32 := 0#32
  let v479 : Index := Scalar.indexCast c0_i32_291
  let c14_i32 : BitVec 32 := 14#32
  let v480 : Index := Scalar.indexCast c14_i32
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v481 : Index := Scalar.indexCast v226
  ![0, 14, v481.toNat]
def k0_off48 (k0_t2 : Fin k0_t2_loop.trips) : Fin 3 → Nat :=
  let c2_i32_292 : BitVec 32 := 2#32
  let v484 : Index := Scalar.indexCast c2_i32_292
  let c14_i32_293 : BitVec 32 := 14#32
  let v485 : Index := Scalar.indexCast c14_i32_293
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v486 : Index := Scalar.indexCast v226
  ![2, 14, v486.toNat]
def k0_off49 (k0_t2 : Fin k0_t2_loop.trips) : Fin 3 → Nat :=
  let c4_i32_294 : BitVec 32 := 4#32
  let v491 : Index := Scalar.indexCast c4_i32_294
  let c14_i32_295 : BitVec 32 := 14#32
  let v492 : Index := Scalar.indexCast c14_i32_295
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v493 : Index := Scalar.indexCast v226
  ![4, 14, v493.toNat]
def k0_off50 (k0_t2 : Fin k0_t2_loop.trips) : Fin 3 → Nat :=
  let c0_i32_296 : BitVec 32 := 0#32
  let v497 : Index := Scalar.indexCast c0_i32_296
  let c15_i32_297 : BitVec 32 := 15#32
  let v498 : Index := Scalar.indexCast c15_i32_297
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v499 : Index := Scalar.indexCast v226
  ![0, 15, v499.toNat]
def k0_off51 (k0_t2 : Fin k0_t2_loop.trips) : Fin 3 → Nat :=
  let c2_i32_298 : BitVec 32 := 2#32
  let v502 : Index := Scalar.indexCast c2_i32_298
  let c15_i32_299 : BitVec 32 := 15#32
  let v503 : Index := Scalar.indexCast c15_i32_299
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v504 : Index := Scalar.indexCast v226
  ![2, 15, v504.toNat]
def k0_off52 (k0_t2 : Fin k0_t2_loop.trips) : Fin 3 → Nat :=
  let c4_i32_300 : BitVec 32 := 4#32
  let v509 : Index := Scalar.indexCast c4_i32_300
  let c15_i32_301 : BitVec 32 := 15#32
  let v510 : Index := Scalar.indexCast c15_i32_301
  let c0_i32_125 : BitVec 32 := 0#32
  let c1_i32_126 : BitVec 32 := 1#32
  let arg17 : BitVec 32 := Scf.iv c0_i32_125 c1_i32_126 k0_t2
  let c16_i32_213 : BitVec 32 := 16#32
  let v226 : BitVec 32 := Scalar.muli arg17 c16_i32_213
  let v511 : Index := Scalar.indexCast v226
  ![4, 15, v511.toNat]
def k0_off53 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  let c0_i32_40 : BitVec 32 := 0#32
  let c1_i32_41 : BitVec 32 := 1#32
  let arg16 : BitVec 32 := Scf.iv c0_i32_40 c1_i32_41 k0_t1
  let c2_i32_95 : BitVec 32 := 2#32
  let v81 : BitVec 32 := Scalar.muli arg16 c2_i32_95
  let c16_i32_128 : BitVec 32 := 16#32
  let v129 : BitVec 32 := Scalar.muli v81 c16_i32_128
  let v130 : BitVec 32 := Scalar.addi v3 v129
  let c0_i32_132 : BitVec 32 := 0#32
  ![v130.toNat, 0]
def k0_off54 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  let c0_i32_40 : BitVec 32 := 0#32
  let c1_i32_41 : BitVec 32 := 1#32
  let arg16 : BitVec 32 := Scf.iv c0_i32_40 c1_i32_41 k0_t1
  let c2_i32_95 : BitVec 32 := 2#32
  let v81 : BitVec 32 := Scalar.muli arg16 c2_i32_95
  let c2_i32_136 : BitVec 32 := 2#32
  let v137 : BitVec 32 := Scalar.addi v81 c2_i32_136
  let c15_i32_137 : BitVec 32 := 15#32
  let v138 : BitVec 32 := Scalar.minsi v137 c15_i32_137
  let c16_i32_138 : BitVec 32 := 16#32
  let v139 : BitVec 32 := Scalar.muli v138 c16_i32_138
  let v140 : BitVec 32 := Scalar.addi v3 v139
  let c0_i32_142 : BitVec 32 := 0#32
  ![v140.toNat, 0]
def k0_off55 (k0_t1 : Fin k0_t1_loop.trips) : Fin 1 → Nat :=
  let c0_i32_40 : BitVec 32 := 0#32
  let c1_i32_41 : BitVec 32 := 1#32
  let arg16 : BitVec 32 := Scf.iv c0_i32_40 c1_i32_41 k0_t1
  let c2_i32_153 : BitVec 32 := 2#32
  let v153 : BitVec 32 := Scalar.muli arg16 c2_i32_153
  let c1_i32_154 : BitVec 32 := 1#32
  let v154 : BitVec 32 := Scalar.addi v153 c1_i32_154
  let c8_i32_182 : BitVec 32 := 8#32
  let v173 : BitVec 32 := Scalar.muli v154 c8_i32_182
  let v174 : Index := Scalar.indexCast v173
  ![v174.toNat]
@[reducible] def k0_t3_loop : Scf.Loop 32 :=
  let c0_i32_184 : BitVec 32 := 0#32
  let c64_i32_185 : BitVec 32 := 64#32
  let v201 : BitVec 32 := Scalar.addi c0_i32_184 c64_i32_185
  let c1_i32_186 : BitVec 32 := 1#32
  ⟨c0_i32_184, v201, c1_i32_186⟩
def k0_off56 (k0_t3 : Fin k0_t3_loop.trips) : Fin 3 → Nat :=
  let c1_i32_214 : BitVec 32 := 1#32
  let v227 : Index := Scalar.indexCast c1_i32_214
  let c0_i32_215 : BitVec 32 := 0#32
  let v228 : Index := Scalar.indexCast c0_i32_215
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v229 : Index := Scalar.indexCast v226
  ![1, 0, v229.toNat]
def k0_off57 (k0_t3 : Fin k0_t3_loop.trips) : Fin 3 → Nat :=
  let c3_i32_216 : BitVec 32 := 3#32
  let v232 : Index := Scalar.indexCast c3_i32_216
  let c0_i32_217 : BitVec 32 := 0#32
  let v233 : Index := Scalar.indexCast c0_i32_217
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v234 : Index := Scalar.indexCast v226
  ![3, 0, v234.toNat]
def k0_off58 (k0_t3 : Fin k0_t3_loop.trips) : Fin 3 → Nat :=
  let c5_i32_218 : BitVec 32 := 5#32
  let v239 : Index := Scalar.indexCast c5_i32_218
  let c0_i32_219 : BitVec 32 := 0#32
  let v240 : Index := Scalar.indexCast c0_i32_219
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v241 : Index := Scalar.indexCast v226
  ![5, 0, v241.toNat]
def k0_off59 (k0_t3 : Fin k0_t3_loop.trips) : Fin 3 → Nat :=
  let c1_i32_220 : BitVec 32 := 1#32
  let v245 : Index := Scalar.indexCast c1_i32_220
  let c1_i32_221 : BitVec 32 := 1#32
  let v246 : Index := Scalar.indexCast c1_i32_221
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v247 : Index := Scalar.indexCast v226
  ![1, 1, v247.toNat]
def k0_off60 (k0_t3 : Fin k0_t3_loop.trips) : Fin 3 → Nat :=
  let c3_i32_222 : BitVec 32 := 3#32
  let v250 : Index := Scalar.indexCast c3_i32_222
  let c1_i32_223 : BitVec 32 := 1#32
  let v251 : Index := Scalar.indexCast c1_i32_223
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v252 : Index := Scalar.indexCast v226
  ![3, 1, v252.toNat]
def k0_off61 (k0_t3 : Fin k0_t3_loop.trips) : Fin 3 → Nat :=
  let c5_i32_224 : BitVec 32 := 5#32
  let v257 : Index := Scalar.indexCast c5_i32_224
  let c1_i32_225 : BitVec 32 := 1#32
  let v258 : Index := Scalar.indexCast c1_i32_225
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v259 : Index := Scalar.indexCast v226
  ![5, 1, v259.toNat]
def k0_off62 (k0_t3 : Fin k0_t3_loop.trips) : Fin 3 → Nat :=
  let c1_i32_226 : BitVec 32 := 1#32
  let v263 : Index := Scalar.indexCast c1_i32_226
  let c2_i32_227 : BitVec 32 := 2#32
  let v264 : Index := Scalar.indexCast c2_i32_227
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v265 : Index := Scalar.indexCast v226
  ![1, 2, v265.toNat]
def k0_off63 (k0_t3 : Fin k0_t3_loop.trips) : Fin 3 → Nat :=
  let c3_i32_228 : BitVec 32 := 3#32
  let v268 : Index := Scalar.indexCast c3_i32_228
  let c2_i32_229 : BitVec 32 := 2#32
  let v269 : Index := Scalar.indexCast c2_i32_229
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v270 : Index := Scalar.indexCast v226
  ![3, 2, v270.toNat]
def k0_off64 (k0_t3 : Fin k0_t3_loop.trips) : Fin 3 → Nat :=
  let c5_i32_230 : BitVec 32 := 5#32
  let v275 : Index := Scalar.indexCast c5_i32_230
  let c2_i32_231 : BitVec 32 := 2#32
  let v276 : Index := Scalar.indexCast c2_i32_231
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v277 : Index := Scalar.indexCast v226
  ![5, 2, v277.toNat]
def k0_off65 (k0_t3 : Fin k0_t3_loop.trips) : Fin 3 → Nat :=
  let c1_i32_232 : BitVec 32 := 1#32
  let v281 : Index := Scalar.indexCast c1_i32_232
  let c3_i32_233 : BitVec 32 := 3#32
  let v282 : Index := Scalar.indexCast c3_i32_233
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v283 : Index := Scalar.indexCast v226
  ![1, 3, v283.toNat]
def k0_off66 (k0_t3 : Fin k0_t3_loop.trips) : Fin 3 → Nat :=
  let c3_i32_234 : BitVec 32 := 3#32
  let v286 : Index := Scalar.indexCast c3_i32_234
  let c3_i32_235 : BitVec 32 := 3#32
  let v287 : Index := Scalar.indexCast c3_i32_235
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v288 : Index := Scalar.indexCast v226
  ![3, 3, v288.toNat]
def k0_off67 (k0_t3 : Fin k0_t3_loop.trips) : Fin 3 → Nat :=
  let c5_i32_236 : BitVec 32 := 5#32
  let v293 : Index := Scalar.indexCast c5_i32_236
  let c3_i32_237 : BitVec 32 := 3#32
  let v294 : Index := Scalar.indexCast c3_i32_237
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v295 : Index := Scalar.indexCast v226
  ![5, 3, v295.toNat]
def k0_off68 (k0_t3 : Fin k0_t3_loop.trips) : Fin 3 → Nat :=
  let c1_i32_238 : BitVec 32 := 1#32
  let v299 : Index := Scalar.indexCast c1_i32_238
  let c4_i32_239 : BitVec 32 := 4#32
  let v300 : Index := Scalar.indexCast c4_i32_239
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v301 : Index := Scalar.indexCast v226
  ![1, 4, v301.toNat]
def k0_off69 (k0_t3 : Fin k0_t3_loop.trips) : Fin 3 → Nat :=
  let c3_i32_240 : BitVec 32 := 3#32
  let v304 : Index := Scalar.indexCast c3_i32_240
  let c4_i32_241 : BitVec 32 := 4#32
  let v305 : Index := Scalar.indexCast c4_i32_241
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v306 : Index := Scalar.indexCast v226
  ![3, 4, v306.toNat]
def k0_off70 (k0_t3 : Fin k0_t3_loop.trips) : Fin 3 → Nat :=
  let c5_i32_242 : BitVec 32 := 5#32
  let v311 : Index := Scalar.indexCast c5_i32_242
  let c4_i32_243 : BitVec 32 := 4#32
  let v312 : Index := Scalar.indexCast c4_i32_243
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v313 : Index := Scalar.indexCast v226
  ![5, 4, v313.toNat]
def k0_off71 (k0_t3 : Fin k0_t3_loop.trips) : Fin 3 → Nat :=
  let c1_i32_244 : BitVec 32 := 1#32
  let v317 : Index := Scalar.indexCast c1_i32_244
  let c5_i32_245 : BitVec 32 := 5#32
  let v318 : Index := Scalar.indexCast c5_i32_245
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v319 : Index := Scalar.indexCast v226
  ![1, 5, v319.toNat]
def k0_off72 (k0_t3 : Fin k0_t3_loop.trips) : Fin 3 → Nat :=
  let c3_i32_246 : BitVec 32 := 3#32
  let v322 : Index := Scalar.indexCast c3_i32_246
  let c5_i32_247 : BitVec 32 := 5#32
  let v323 : Index := Scalar.indexCast c5_i32_247
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v324 : Index := Scalar.indexCast v226
  ![3, 5, v324.toNat]
def k0_off73 (k0_t3 : Fin k0_t3_loop.trips) : Fin 3 → Nat :=
  let c5_i32_248 : BitVec 32 := 5#32
  let v329 : Index := Scalar.indexCast c5_i32_248
  let c5_i32_249 : BitVec 32 := 5#32
  let v330 : Index := Scalar.indexCast c5_i32_249
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v331 : Index := Scalar.indexCast v226
  ![5, 5, v331.toNat]
def k0_off74 (k0_t3 : Fin k0_t3_loop.trips) : Fin 3 → Nat :=
  let c1_i32_250 : BitVec 32 := 1#32
  let v335 : Index := Scalar.indexCast c1_i32_250
  let c6_i32 : BitVec 32 := 6#32
  let v336 : Index := Scalar.indexCast c6_i32
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v337 : Index := Scalar.indexCast v226
  ![1, 6, v337.toNat]
def k0_off75 (k0_t3 : Fin k0_t3_loop.trips) : Fin 3 → Nat :=
  let c3_i32_251 : BitVec 32 := 3#32
  let v340 : Index := Scalar.indexCast c3_i32_251
  let c6_i32_252 : BitVec 32 := 6#32
  let v341 : Index := Scalar.indexCast c6_i32_252
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v342 : Index := Scalar.indexCast v226
  ![3, 6, v342.toNat]
def k0_off76 (k0_t3 : Fin k0_t3_loop.trips) : Fin 3 → Nat :=
  let c5_i32_253 : BitVec 32 := 5#32
  let v347 : Index := Scalar.indexCast c5_i32_253
  let c6_i32_254 : BitVec 32 := 6#32
  let v348 : Index := Scalar.indexCast c6_i32_254
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v349 : Index := Scalar.indexCast v226
  ![5, 6, v349.toNat]
def k0_off77 (k0_t3 : Fin k0_t3_loop.trips) : Fin 3 → Nat :=
  let c1_i32_255 : BitVec 32 := 1#32
  let v353 : Index := Scalar.indexCast c1_i32_255
  let c7_i32 : BitVec 32 := 7#32
  let v354 : Index := Scalar.indexCast c7_i32
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v355 : Index := Scalar.indexCast v226
  ![1, 7, v355.toNat]
def k0_off78 (k0_t3 : Fin k0_t3_loop.trips) : Fin 3 → Nat :=
  let c3_i32_256 : BitVec 32 := 3#32
  let v358 : Index := Scalar.indexCast c3_i32_256
  let c7_i32_257 : BitVec 32 := 7#32
  let v359 : Index := Scalar.indexCast c7_i32_257
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v360 : Index := Scalar.indexCast v226
  ![3, 7, v360.toNat]
def k0_off79 (k0_t3 : Fin k0_t3_loop.trips) : Fin 3 → Nat :=
  let c5_i32_258 : BitVec 32 := 5#32
  let v365 : Index := Scalar.indexCast c5_i32_258
  let c7_i32_259 : BitVec 32 := 7#32
  let v366 : Index := Scalar.indexCast c7_i32_259
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v367 : Index := Scalar.indexCast v226
  ![5, 7, v367.toNat]
def k0_off80 (k0_t3 : Fin k0_t3_loop.trips) : Fin 3 → Nat :=
  let c1_i32_260 : BitVec 32 := 1#32
  let v371 : Index := Scalar.indexCast c1_i32_260
  let c8_i32_261 : BitVec 32 := 8#32
  let v372 : Index := Scalar.indexCast c8_i32_261
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v373 : Index := Scalar.indexCast v226
  ![1, 8, v373.toNat]
def k0_off81 (k0_t3 : Fin k0_t3_loop.trips) : Fin 3 → Nat :=
  let c3_i32_262 : BitVec 32 := 3#32
  let v376 : Index := Scalar.indexCast c3_i32_262
  let c8_i32_263 : BitVec 32 := 8#32
  let v377 : Index := Scalar.indexCast c8_i32_263
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v378 : Index := Scalar.indexCast v226
  ![3, 8, v378.toNat]
def k0_off82 (k0_t3 : Fin k0_t3_loop.trips) : Fin 3 → Nat :=
  let c5_i32_264 : BitVec 32 := 5#32
  let v383 : Index := Scalar.indexCast c5_i32_264
  let c8_i32_265 : BitVec 32 := 8#32
  let v384 : Index := Scalar.indexCast c8_i32_265
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v385 : Index := Scalar.indexCast v226
  ![5, 8, v385.toNat]
def k0_off83 (k0_t3 : Fin k0_t3_loop.trips) : Fin 3 → Nat :=
  let c1_i32_266 : BitVec 32 := 1#32
  let v389 : Index := Scalar.indexCast c1_i32_266
  let c9_i32 : BitVec 32 := 9#32
  let v390 : Index := Scalar.indexCast c9_i32
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v391 : Index := Scalar.indexCast v226
  ![1, 9, v391.toNat]
def k0_off84 (k0_t3 : Fin k0_t3_loop.trips) : Fin 3 → Nat :=
  let c3_i32_267 : BitVec 32 := 3#32
  let v394 : Index := Scalar.indexCast c3_i32_267
  let c9_i32_268 : BitVec 32 := 9#32
  let v395 : Index := Scalar.indexCast c9_i32_268
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v396 : Index := Scalar.indexCast v226
  ![3, 9, v396.toNat]
def k0_off85 (k0_t3 : Fin k0_t3_loop.trips) : Fin 3 → Nat :=
  let c5_i32_269 : BitVec 32 := 5#32
  let v401 : Index := Scalar.indexCast c5_i32_269
  let c9_i32_270 : BitVec 32 := 9#32
  let v402 : Index := Scalar.indexCast c9_i32_270
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v403 : Index := Scalar.indexCast v226
  ![5, 9, v403.toNat]
def k0_off86 (k0_t3 : Fin k0_t3_loop.trips) : Fin 3 → Nat :=
  let c1_i32_271 : BitVec 32 := 1#32
  let v407 : Index := Scalar.indexCast c1_i32_271
  let c10_i32 : BitVec 32 := 10#32
  let v408 : Index := Scalar.indexCast c10_i32
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v409 : Index := Scalar.indexCast v226
  ![1, 10, v409.toNat]
def k0_off87 (k0_t3 : Fin k0_t3_loop.trips) : Fin 3 → Nat :=
  let c3_i32_272 : BitVec 32 := 3#32
  let v412 : Index := Scalar.indexCast c3_i32_272
  let c10_i32_273 : BitVec 32 := 10#32
  let v413 : Index := Scalar.indexCast c10_i32_273
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v414 : Index := Scalar.indexCast v226
  ![3, 10, v414.toNat]
def k0_off88 (k0_t3 : Fin k0_t3_loop.trips) : Fin 3 → Nat :=
  let c5_i32_274 : BitVec 32 := 5#32
  let v419 : Index := Scalar.indexCast c5_i32_274
  let c10_i32_275 : BitVec 32 := 10#32
  let v420 : Index := Scalar.indexCast c10_i32_275
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v421 : Index := Scalar.indexCast v226
  ![5, 10, v421.toNat]
def k0_off89 (k0_t3 : Fin k0_t3_loop.trips) : Fin 3 → Nat :=
  let c1_i32_276 : BitVec 32 := 1#32
  let v425 : Index := Scalar.indexCast c1_i32_276
  let c11_i32 : BitVec 32 := 11#32
  let v426 : Index := Scalar.indexCast c11_i32
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v427 : Index := Scalar.indexCast v226
  ![1, 11, v427.toNat]
def k0_off90 (k0_t3 : Fin k0_t3_loop.trips) : Fin 3 → Nat :=
  let c3_i32_277 : BitVec 32 := 3#32
  let v430 : Index := Scalar.indexCast c3_i32_277
  let c11_i32_278 : BitVec 32 := 11#32
  let v431 : Index := Scalar.indexCast c11_i32_278
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v432 : Index := Scalar.indexCast v226
  ![3, 11, v432.toNat]
def k0_off91 (k0_t3 : Fin k0_t3_loop.trips) : Fin 3 → Nat :=
  let c5_i32_279 : BitVec 32 := 5#32
  let v437 : Index := Scalar.indexCast c5_i32_279
  let c11_i32_280 : BitVec 32 := 11#32
  let v438 : Index := Scalar.indexCast c11_i32_280
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v439 : Index := Scalar.indexCast v226
  ![5, 11, v439.toNat]
def k0_off92 (k0_t3 : Fin k0_t3_loop.trips) : Fin 3 → Nat :=
  let c1_i32_281 : BitVec 32 := 1#32
  let v443 : Index := Scalar.indexCast c1_i32_281
  let c12_i32 : BitVec 32 := 12#32
  let v444 : Index := Scalar.indexCast c12_i32
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v445 : Index := Scalar.indexCast v226
  ![1, 12, v445.toNat]
def k0_off93 (k0_t3 : Fin k0_t3_loop.trips) : Fin 3 → Nat :=
  let c3_i32_282 : BitVec 32 := 3#32
  let v448 : Index := Scalar.indexCast c3_i32_282
  let c12_i32_283 : BitVec 32 := 12#32
  let v449 : Index := Scalar.indexCast c12_i32_283
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v450 : Index := Scalar.indexCast v226
  ![3, 12, v450.toNat]
def k0_off94 (k0_t3 : Fin k0_t3_loop.trips) : Fin 3 → Nat :=
  let c5_i32_284 : BitVec 32 := 5#32
  let v455 : Index := Scalar.indexCast c5_i32_284
  let c12_i32_285 : BitVec 32 := 12#32
  let v456 : Index := Scalar.indexCast c12_i32_285
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v457 : Index := Scalar.indexCast v226
  ![5, 12, v457.toNat]
def k0_off95 (k0_t3 : Fin k0_t3_loop.trips) : Fin 3 → Nat :=
  let c1_i32_286 : BitVec 32 := 1#32
  let v461 : Index := Scalar.indexCast c1_i32_286
  let c13_i32 : BitVec 32 := 13#32
  let v462 : Index := Scalar.indexCast c13_i32
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v463 : Index := Scalar.indexCast v226
  ![1, 13, v463.toNat]
def k0_off96 (k0_t3 : Fin k0_t3_loop.trips) : Fin 3 → Nat :=
  let c3_i32_287 : BitVec 32 := 3#32
  let v466 : Index := Scalar.indexCast c3_i32_287
  let c13_i32_288 : BitVec 32 := 13#32
  let v467 : Index := Scalar.indexCast c13_i32_288
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v468 : Index := Scalar.indexCast v226
  ![3, 13, v468.toNat]
def k0_off97 (k0_t3 : Fin k0_t3_loop.trips) : Fin 3 → Nat :=
  let c5_i32_289 : BitVec 32 := 5#32
  let v473 : Index := Scalar.indexCast c5_i32_289
  let c13_i32_290 : BitVec 32 := 13#32
  let v474 : Index := Scalar.indexCast c13_i32_290
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v475 : Index := Scalar.indexCast v226
  ![5, 13, v475.toNat]
def k0_off98 (k0_t3 : Fin k0_t3_loop.trips) : Fin 3 → Nat :=
  let c1_i32_291 : BitVec 32 := 1#32
  let v479 : Index := Scalar.indexCast c1_i32_291
  let c14_i32 : BitVec 32 := 14#32
  let v480 : Index := Scalar.indexCast c14_i32
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v481 : Index := Scalar.indexCast v226
  ![1, 14, v481.toNat]
def k0_off99 (k0_t3 : Fin k0_t3_loop.trips) : Fin 3 → Nat :=
  let c3_i32_292 : BitVec 32 := 3#32
  let v484 : Index := Scalar.indexCast c3_i32_292
  let c14_i32_293 : BitVec 32 := 14#32
  let v485 : Index := Scalar.indexCast c14_i32_293
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v486 : Index := Scalar.indexCast v226
  ![3, 14, v486.toNat]
def k0_off100 (k0_t3 : Fin k0_t3_loop.trips) : Fin 3 → Nat :=
  let c5_i32_294 : BitVec 32 := 5#32
  let v491 : Index := Scalar.indexCast c5_i32_294
  let c14_i32_295 : BitVec 32 := 14#32
  let v492 : Index := Scalar.indexCast c14_i32_295
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v493 : Index := Scalar.indexCast v226
  ![5, 14, v493.toNat]
def k0_off101 (k0_t3 : Fin k0_t3_loop.trips) : Fin 3 → Nat :=
  let c1_i32_296 : BitVec 32 := 1#32
  let v497 : Index := Scalar.indexCast c1_i32_296
  let c15_i32_297 : BitVec 32 := 15#32
  let v498 : Index := Scalar.indexCast c15_i32_297
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v499 : Index := Scalar.indexCast v226
  ![1, 15, v499.toNat]
def k0_off102 (k0_t3 : Fin k0_t3_loop.trips) : Fin 3 → Nat :=
  let c3_i32_298 : BitVec 32 := 3#32
  let v502 : Index := Scalar.indexCast c3_i32_298
  let c15_i32_299 : BitVec 32 := 15#32
  let v503 : Index := Scalar.indexCast c15_i32_299
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v504 : Index := Scalar.indexCast v226
  ![3, 15, v504.toNat]
def k0_off103 (k0_t3 : Fin k0_t3_loop.trips) : Fin 3 → Nat :=
  let c5_i32_300 : BitVec 32 := 5#32
  let v509 : Index := Scalar.indexCast c5_i32_300
  let c15_i32_301 : BitVec 32 := 15#32
  let v510 : Index := Scalar.indexCast c15_i32_301
  let c0_i32_184 : BitVec 32 := 0#32
  let c1_i32_186 : BitVec 32 := 1#32
  let arg17 : BitVec 32 := Scf.iv c0_i32_184 c1_i32_186 k0_t3
  let c16_i32_213 : BitVec 32 := 16#32
  let v226 : BitVec 32 := Scalar.muli arg17 c16_i32_213
  let v511 : Index := Scalar.indexCast v226
  ![5, 15, v511.toNat]
def k0_off104 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  let c0_i32_40 : BitVec 32 := 0#32
  let c1_i32_41 : BitVec 32 := 1#32
  let arg16 : BitVec 32 := Scf.iv c0_i32_40 c1_i32_41 k0_t1
  let c2_i32_153 : BitVec 32 := 2#32
  let v153 : BitVec 32 := Scalar.muli arg16 c2_i32_153
  let c1_i32_154 : BitVec 32 := 1#32
  let v154 : BitVec 32 := Scalar.addi v153 c1_i32_154
  let c16_i32_188 : BitVec 32 := 16#32
  let v202 : BitVec 32 := Scalar.muli v154 c16_i32_188
  let v203 : BitVec 32 := Scalar.addi v3 v202
  let c0_i32_192 : BitVec 32 := 0#32
  ![v203.toNat, 0]
def k0_off105 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  let c0_i32_40 : BitVec 32 := 0#32
  let c1_i32_41 : BitVec 32 := 1#32
  let arg16 : BitVec 32 := Scf.iv c0_i32_40 c1_i32_41 k0_t1
  let c2_i32_153 : BitVec 32 := 2#32
  let v153 : BitVec 32 := Scalar.muli arg16 c2_i32_153
  let c1_i32_154 : BitVec 32 := 1#32
  let v154 : BitVec 32 := Scalar.addi v153 c1_i32_154
  let c2_i32_196 : BitVec 32 := 2#32
  let v210 : BitVec 32 := Scalar.addi v154 c2_i32_196
  let c15_i32_197 : BitVec 32 := 15#32
  let v211 : BitVec 32 := Scalar.minsi v210 c15_i32_197
  let c16_i32_198 : BitVec 32 := 16#32
  let v212 : BitVec 32 := Scalar.muli v211 c16_i32_198
  let v213 : BitVec 32 := Scalar.addi v3 v212
  let c0_i32_202 : BitVec 32 := 0#32
  ![v213.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2048x2048 : Shape := ⟨3, ![2, 2048, 2048]⟩
abbrev S2x2048 : Shape := ⟨2, ![2, 2048]⟩
abbrev S2x2048x1 : Shape := ⟨3, ![2, 2048, 1]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048, .i1⟩
  | .hbm, ⟨3, _⟩ => ⟨S2x2048x2048, .f32⟩
  | .hbm, ⟨4, _⟩ => ⟨S2x2048x1, .i1⟩
  | .hbm, ⟨5, _⟩ => ⟨S2x2048x2048, .i1⟩
  | .hbm, ⟨6, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.Setup.lean ====
/-
  The kernel's set-up: the program as the SparseCore launch theorem sees it, the arrays it addresses, and the rows of them
  each tile works on.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Pointwise
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.Attack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
abbrev 𝕄 (F : FTy → Type) := MT nD τ sig (HIx 1) (Elt F) ℕ UU ℕ
abbrev EH : Emb UH (MT nD τ sig (HIx 1) (Elt F) ℕ UU ℕ) := embL

/-! ## The arrays -/

abbrev xLoc (d : Dev nD) : Loc nD τ sig := (SparseCore.T d).loc main_v0
abbrev aLoc (d : Dev nD) : Loc nD τ sig := (SparseCore.T d).loc main_v1
abbrev mLoc (d : Dev nD) : Loc nD τ sig := (SparseCore.T d).loc main_v3
abbrev oLoc (d : Dev nD) : Loc nD τ sig := (SparseCore.T d).loc main_v4_0
abbrev tLoc (d : Dev nD) : Loc nD τ sig := (SparseCore.T d).loc main_v4_1

abbrev xW : Memref sig .scVector .hbm S8192x1024 .f32 := Memref.whole main_v0_scv
abbrev aW : Memref sig .scVector .hbm S8192x1024 .f32 := Memref.whole main_v1_scv
abbrev mW : Memref sig .scVector .hbm S4096 .f32 := Memref.whole main_v3_scv
abbrev oW : Memref sig .scVector .hbm S8192x1024 .f32 := Memref.whole main_v4_0_scv
abbrev tW : Memref sig .scVector .hbm S1024x1024 .f32 := Memref.whole main_v4_1_scv
abbrev kW : Memref sig .scVector .vmem S144 .f32 := Memref.whole cc0_scratch0
abbrev bW : Memref sig .scVector .vmem S6x16x1024 .f32 := Memref.whole cc0_scratch1
abbrev zW : Memref sig .scVector .vmem S16x1024 .f32 := Memref.whole cc0_scratch2

/-! ## The tile -/

abbrev cV (L : grid0.Coords) : Fin τ.nSC := (L 0).castLE hcore0
abbrev jV (L : grid0.Coords) : Fin τ.nSub := (L 1).castLE hsub0
/-- The tile's thread. -/
abbrev th (d : Dev nD) (L : grid0.Coords) : Thread nD τ := V d (cV L) (jV L)
/-- The tile's number: it works on rows `256 w … 256 w + 255`. -/
abbrev wid (L : grid0.Coords) : ℕ := 2 * (L 1).val + (L 0).val

abbrev kLoc (d : Dev nD) (L : grid0.Coords) : Loc nD τ sig := (th d L).loc cc0_scratch0
abbrev bLoc (d : Dev nD) (L : grid0.Coords) : Loc nD τ sig := (th d L).loc cc0_scratch1
abbrev zLoc (d : Dev nD) (L : grid0.Coords) : Loc nD τ sig := (th d L).loc cc0_scratch2

/-! ## Planes of the block scratch and rows of the output -/

/-- Plane `p` of the six-plane block scratch. -/
def plane (p : ℕ) : Finset S6x16x1024.Idx := Finset.univ.filter fun j => (j 0).val = p
/-- The rows of tile `w` whose block of sixteen has parity `b`. -/
def oSet (w b : ℕ) : Finset S8192x1024.Idx := Finset.univ.filter fun j => (j 0).val / 256 = w ∧ (j 0).val / 16 % 2 = b
/-- The rows of the discarded array that tile `w`'s copy on semaphore `b` fills. -/
def tSet (w b : ℕ) : Finset S1024x1024.Idx := Finset.univ.filter fun j => (j 0).val / 16 = 2 * w + b

theorem mem_plane {p : ℕ} {j : S6x16x1024.Idx} : j ∈ plane p ↔ (j 0).val = p := by simp [plane]
theorem mem_oSet {w b : ℕ} {j : S8192x1024.Idx} : j ∈ oSet w b ↔ (j 0).val / 256 = w ∧ (j 0).val / 16 % 2 = b := by simp [oSet]
theorem mem_tSet {w b : ℕ} {j : S1024x1024.Idx} : j ∈ tSet w b ↔ (j 0).val / 16 = 2 * w + b := by simp [tSet]

/-! ## What the kernel computes -/

variable [FloatOps F]

/-- Row `n`, column `c`. -/
def row (n : ℕ) (c : Fin 1024) : S8192x1024.Idx := ValueIdx.ix2 (⟨n % 8192, Nat.mod_lt _ (by decide)⟩ : Fin 8192) c
/-- The mask's entry `n`. -/
def mrow (n : ℕ) : S4096.Idx := ValueIdx.ix1 (⟨n % 4096, Nat.mod_lt _ (by decide)⟩ : Fin 4096)

/-- Entry `j` of the output: `x + a · mask`, the mask's entry that of the row pair `j` lies in. -/
def out (X A : S8192x1024.Idx → F .f32) (M : S4096.Idx → F .f32) (j : S8192x1024.Idx) : F .f32 :=
  FloatOps.addf (X j) (FloatOps.mulf (A j) (M (mrow ((j 0).val / 2))))

/-- The sixteen rows from row `n` on. -/
def rowsAt (X : S8192x1024.Idx → F .f32) (n : ℕ) : Fin 16 → Fin 1024 → F .f32 := fun r c => X (row (n + r.val) c)

end Cert.Proof.Attack

end
-- ==== Proof.Row.lean ====
/-
  One column step of the inner loop: sixteen rows, each read from the operands' planes of the block scratch, combined and
  stored into the output's plane. The sixteen rows are one list, and a row is proved once.
-/
module

public import proofs.«01_k».proof.Proof.Setup

@[expose] public section

noncomputable section

namespace Cert.Proof.Attack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The rectangle of sixteen columns of one row of one plane. -/
abbrev rowR (o : Fin 3 → ℕ) (h : ∀ a, o a + S1x1x16.size a ≤ S6x16x1024.size a) : Rect S6x16x1024 :=
  Rect.unit (s := S6x16x1024) o S1x1x16.size h

/-- One row's accesses: where `x`, `a` and the result lie in the block scratch, and the mask's vector. -/
structure Row (F : FTy → Type) where
  ox : Fin 3 → ℕ
  oa : Fin 3 → ℕ
  oo : Fin 3 → ℕ
  hx : ∀ a, ox a + S1x1x16.size a ≤ S6x16x1024.size a
  ha : ∀ a, oa a + S1x1x16.size a ≤ S6x16x1024.size a
  ho : ∀ a, oo a + S1x1x16.size a ≤ S6x16x1024.size a
  mv : FVec F S16 .f32

/-- A row's stored vector. -/
def rowVal (mv : FVec F S16 .f32) (u v : Vec F S1x1x16 .f32) : FVec F S1x1x16 .f32 :=
  shapeCast S1x1x16 (addf (shapeCast S16 u shapeCasts_S1x1x16_S16) (mulf (shapeCast S16 v shapeCasts_S1x1x16_S16) mv)) shapeCasts_S16_S1x1x16

theorem rowVal_apply (c : F .f32) (u v : Vec F S1x1x16 .f32) (y : S1x1x16.Idx) :
    rowVal (fun _ => c) u v y = FloatOps.addf (u y) (FloatOps.mulf (v y) c) := by
  have e : ∀ w : Vec F S1x1x16 .f32, shapeCast S16 w shapeCasts_S1x1x16_S16 (Shape.reshapeEquiv shapeCasts_S16_S1x1x16 y) = w y := fun w => by
    unfold shapeCast
    congr 1
    exact Equiv.symm_apply_apply (Shape.reshapeEquiv shapeCasts_S16_S1x1x16) y
  show FloatOps.addf (shapeCast S16 u _ _) (FloatOps.mulf (shapeCast S16 v _ _) c) = _
  rw [e u, e v]

/-- The rows of a list, one after the other. -/
def rowsProg (L : grid0.Coords) (m : Memref sig .scVector .vmem S6x16x1024 .f32) :
    List (Row F) → Prog (TpuEff nD τ sig (Elt F) Λ₀ (.scVector ((L 0).castLE hcore0) ((L 1).castLE hsub0))) Unit
  | [] => pure ⟨⟩
  | r :: rs => do
    let u : Vec F S1x1x16 .f32 ← Prog.lift (.load m (rowR r.ox r.hx).toLoadRect (View.loadsAt_vmem h_S1x1x16))
    let v : Vec F S1x1x16 .f32 ← Prog.lift (.load m (rowR r.oa r.ha).toLoadRect (View.loadsAt_vmem h_S1x1x16))
    let _ : Vec F S1x1x16 .f32 ← Prog.lift (.load m (rowR r.oo r.ho).toLoadRect (View.loadsAt_vmem h_S1x1x16))
    Prog.lift (.store m (rowR r.oo r.ho) (rowVal r.mv u v) Finset.univ (View.stores_vmem_bits_univ h_S1x1x16 rfl) (.inl rfl))
    rowsProg L m rs

/-! ## The loop bodies are lists of rows -/

variable (L : grid0.Coords) (t1 : Fin k0_t1_loop.trips) (v3 v82 : BitVec 32)

/-- The first inner loop's body. -/
abbrev body2 (v104 v107 : FVec F S16 .f32) (v108 : FVec F S1 .f32) :=
  k0_t2_body (F := F) L xW (Memref.isWhole_whole _) aW (Memref.isWhole_whole _) mW (Memref.isWhole_whole _) oW (Memref.isWhole_whole _)
    tW (Memref.isWhole_whole _) kW (Memref.isWhole_whole _) bW (Memref.isWhole_whole _) zW (Memref.isWhole_whole _)
    cc0_scratch3 cc0_scratch4 cc0_scratch5 cc0_scratch6 cc0_scratch7 cc0_scratch8 cc0_scoped0 v3 t1 v82 v104 v107 v108

/-- The first inner loop's rows at column step `t`. -/
def rows2 (v104 v107 : FVec F S16 .f32) (v108 : FVec F S1 .f32) (t : Fin k0_t2_loop.trips) : List (Row F) :=
  [⟨_, _, _, k0_off5_inb t, k0_off6_inb t, k0_off7_inb t, v107⟩,
   ⟨_, _, _, k0_off8_inb t, k0_off9_inb t, k0_off10_inb t, v107⟩,
   ⟨_, _, _, k0_off11_inb t, k0_off12_inb t, k0_off13_inb t, k0_pay42 v108⟩,
   ⟨_, _, _, k0_off14_inb t, k0_off15_inb t, k0_off16_inb t, k0_pay42 v108⟩,
   ⟨_, _, _, k0_off17_inb t, k0_off18_inb t, k0_off19_inb t, k0_pay43 v104⟩,
   ⟨_, _, _, k0_off20_inb t, k0_off21_inb t, k0_off22_inb t, k0_pay43 v104⟩,
   ⟨_, _, _, k0_off23_inb t, k0_off24_inb t, k0_off25_inb t, k0_pay44 v104⟩,
   ⟨_, _, _, k0_off26_inb t, k0_off27_inb t, k0_off28_inb t, k0_pay44 v104⟩,
   ⟨_, _, _, k0_off29_inb t, k0_off30_inb t, k0_off31_inb t, k0_pay45 v104⟩,
   ⟨_, _, _, k0_off32_inb t, k0_off33_inb t, k0_off34_inb t, k0_pay45 v104⟩,
   ⟨_, _, _, k0_off35_inb t, k0_off36_inb t, k0_off37_inb t, k0_pay46 v104⟩,
   ⟨_, _, _, k0_off38_inb t, k0_off39_inb t, k0_off40_inb t, k0_pay46 v104⟩,
   ⟨_, _, _, k0_off41_inb t, k0_off42_inb t, k0_off43_inb t, k0_pay47 v104⟩,
   ⟨_, _, _, k0_off44_inb t, k0_off45_inb t, k0_off46_inb t, k0_pay47 v104⟩,
   ⟨_, _, _, k0_off47_inb t, k0_off48_inb t, k0_off49_inb t, k0_pay48 v104⟩,
   ⟨_, _, _, k0_off50_inb t, k0_off51_inb t, k0_off52_inb t, k0_pay48 v104⟩]

set_option maxRecDepth 65536 in
theorem body2_eq (v104 v107 : FVec F S16 .f32) (v108 : FVec F S1 .f32) (t : Fin k0_t2_loop.trips) (u : Unit) :
    body2 L t1 v3 v82 v104 v107 v108 t u = rowsProg L bW (rows2 v104 v107 v108 t) := rfl

/-- The second inner loop's body. -/
abbrev body3 (v155 : BitVec 32) (v176 : Vec F S16 .f32) :=
  k0_t3_body (F := F) L xW (Memref.isWhole_whole _) aW (Memref.isWhole_whole _) mW (Memref.isWhole_whole _) oW (Memref.isWhole_whole _)
    tW (Memref.isWhole_whole _) kW (Memref.isWhole_whole _) bW (Memref.isWhole_whole _) zW (Memref.isWhole_whole _)
    cc0_scratch3 cc0_scratch4 cc0_scratch5 cc0_scratch6 cc0_scratch7 cc0_scratch8 cc0_scoped0 v3 t1 v155 v176

/-- The second inner loop's rows at column step `t`. -/
def rows3 (v176 : Vec F S16 .f32) (t : Fin k0_t3_loop.trips) : List (Row F) :=
  [⟨_, _, _, k0_off56_inb t, k0_off57_inb t, k0_off58_inb t, k0_pay52 v176⟩,
   ⟨_, _, _, k0_off59_inb t, k0_off60_inb t, k0_off61_inb t, k0_pay52 v176⟩,
   ⟨_, _, _, k0_off62_inb t, k0_off63_inb t, k0_off64_inb t, k0_pay53 v176⟩,
   ⟨_, _, _, k0_off65_inb t, k0_off66_inb t, k0_off67_inb t, k0_pay53 v176⟩,
   ⟨_, _, _, k0_off68_inb t, k0_off69_inb t, k0_off70_inb t, k0_pay54 v176⟩,
   ⟨_, _, _, k0_off71_inb t, k0_off72_inb t, k0_off73_inb t, k0_pay54 v176⟩,
   ⟨_, _, _, k0_off74_inb t, k0_off75_inb t, k0_off76_inb t, k0_pay55 v176⟩,
   ⟨_, _, _, k0_off77_inb t, k0_off78_inb t, k0_off79_inb t, k0_pay55 v176⟩,
   ⟨_, _, _, k0_off80_inb t, k0_off81_inb t, k0_off82_inb t, k0_pay56 v176⟩,
   ⟨_, _, _, k0_off83_inb t, k0_off84_inb t, k0_off85_inb t, k0_pay56 v176⟩,
   ⟨_, _, _, k0_off86_inb t, k0_off87_inb t, k0_off88_inb t, k0_pay57 v176⟩,
   ⟨_, _, _, k0_off89_inb t, k0_off90_inb t, k0_off91_inb t, k0_pay57 v176⟩,
   ⟨_, _, _, k0_off92_inb t, k0_off93_inb t, k0_off94_inb t, k0_pay58 v176⟩,
   ⟨_, _, _, k0_off95_inb t, k0_off96_inb t, k0_off97_inb t, k0_pay58 v176⟩,
   ⟨_, _, _, k0_off98_inb t, k0_off99_inb t, k0_off100_inb t, k0_pay59 v176⟩,
   ⟨_, _, _, k0_off101_inb t, k0_off102_inb t, k0_off103_inb t, k0_pay59 v176⟩]

set_option maxRecDepth 65536 in
theorem body3_eq (v155 : BitVec 32) (v176 : Vec F S16 .f32) (t : Fin k0_t3_loop.trips) (u : Unit) :
    body3 L t1 v3 v155 v176 t u = rowsProg L bW (rows3 v176 t) := rfl

/-! ## The rows' offsets and masks -/

/-- The rows from number `r` on lie where the block scratch has them: row `r` of planes `b`, `2 + b` and `4 + b`, columns
    `16 t … 16 t + 15`; and row `r` is masked by the entry of its pair. -/
def Good (b t : ℕ) (mk : ℕ → F .f32) : ℕ → List (Row F) → Prop
  | _, [] => True
  | r, x :: xs => (x.ox = ![b, r, 16 * t] ∧ x.oa = ![2 + b, r, 16 * t] ∧ x.oo = ![4 + b, r, 16 * t] ∧ x.mv = fun _ => mk (r / 2))
      ∧ Good b t mk (r + 1) xs

/-- Lane `j` of a vector of sixteen. -/
def laneOf (w : S16.Idx → F .f32) (j : ℕ) : F .f32 := if h : j < 16 then w (fun | 0 => ⟨j, h⟩) else w (fun | 0 => ⟨0, by decide⟩)

/-- A mask's vector is its lane everywhere. -/
theorem lane_eq {off pos : Fin 1 → ℕ} (j : ℕ) (w : Vec F S16 .f32) (hc : S16.ShapeCasts S16) (hs : S16.Slices off S1)
    (hp : ∀ a, pos a < S1.size a) (hj : off 0 = j) (hp0 : pos 0 = 0) (hlt : j < 16) :
    broadcast S16 (extractAt pos (extractStridedSlice S1 off (shapeCast S16 w hc) hs) hp) = fun _ => laneOf w j := by
  have e : shapeCast S16 w hc = w := by
    funext i; exact shapeCast_apply w hc i i rfl
  rw [e]
  funext i
  show w _ = laneOf w j
  rw [laneOf, dif_pos hlt]
  congr 1
  funext a
  obtain rfl : a = 0 := Subsingleton.elim _ _
  apply Fin.ext
  show off 0 + pos 0 = j
  omega

/-- An offset is its closed form. -/
theorem closed_eq {n : ℕ} (o : Fin n → ℕ) [h : ClosedOff o] : o = h.form := h.eq

theorem good2 (w : Vec F S16 .f32) (t : Fin k0_t2_loop.trips) :
    Good 0 t.val (laneOf w) 0 (rows2 (k0_pay39 w) (k0_pay40 w) (k0_pay41 w) t) := by
  unfold rows2
  iterate 16 refine ⟨⟨closed_eq _, closed_eq _, closed_eq _, lane_eq _ w shapeCasts_S16_S16 (by decide) inpos_S1_p0 rfl rfl (by decide)⟩, ?_⟩
  trivial

theorem good3 (w : Vec F S16 .f32) (t : Fin k0_t3_loop.trips) : Good 1 t.val (laneOf w) 0 (rows3 w t) := by
  unfold rows3
  iterate 16 refine ⟨⟨closed_eq _, closed_eq _, closed_eq _, lane_eq _ w shapeCasts_S16_S16 (by decide) inpos_S1_p0 rfl rfl (by decide)⟩, ?_⟩
  trivial

/-! ## One row, and a list of them -/

/-- A plane's contents by row and column. -/
def pl (f : Fin 16 → Fin 1024 → F .f32) : S6x16x1024.Idx → F .f32 := fun j => f (j 1) (j 2)

/-- The output's plane once the columns below `16 t` are done, and of the next sixteen the rows below `r`. -/
def Done (xf af : Fin 16 → Fin 1024 → F .f32) (mk : ℕ → F .f32) (b t r : ℕ) (g : S6x16x1024.Idx → F .f32) : Prop :=
  ∀ j : S6x16x1024.Idx, (j 0).val = 4 + b → ((j 2).val < 16 * t ∨ (j 2).val < 16 * t + 16 ∧ (j 1).val < r) →
    g j = FloatOps.addf (xf (j 1) (j 2)) (FloatOps.mulf (af (j 1) (j 2)) (mk ((j 1).val / 2)))

theorem mem_rowR {o : Fin 3 → ℕ} {h} {p r t : ℕ} (ho : o = ![p, r, 16 * t]) {j : S6x16x1024.Idx} :
    j ∈ (rowR o h).set ↔ (j 0).val = p ∧ (j 1).val = r ∧ 16 * t ≤ (j 2).val ∧ (j 2).val < 16 * t + 16 := by
  subst ho
  rw [Rect.mem_set_unit, Fin.forall_fin_succ, Fin.forall_fin_succ, Fin.forall_fin_one]
  simp only [Matrix.cons_val_zero, Matrix.cons_val_succ, S1x1x16, Fin.succ_zero_eq_one, Matrix.cons_val_one, Fin.succ_one_eq_two, Matrix.cons_val]
  omega

theorem set_rowR (o : Fin 3 → ℕ) (h) : (bW.access (rowR o h)).set = (rowR o h).set := View.set_slice_whole _ _

theorem rowR_subset {o : Fin 3 → ℕ} {h} {p r t : ℕ} (ho : o = ![p, r, 16 * t]) : (bW.access (rowR o h)).set ⊆ plane p := by
  rw [set_rowR]
  intro j hj
  exact mem_plane.2 ((mem_rowR ho).1 hj).1

theorem read_rowR (f : S6x16x1024.Idx → F .f32) (o : Fin 3 → ℕ) (h) (y : S1x1x16.Idx) :
    (bW.access (rowR o h)).read (Elt F) f y = f ((rowR o h).emb y) := rfl

theorem done_write {xf af : Fin 16 → Fin 1024 → F .f32} {mk : ℕ → F .f32} {b t r : ℕ} {g : S6x16x1024.Idx → F .f32}
    (x : Row F) (hx : x.ox = ![b, r, 16 * t]) (ha : x.oa = ![2 + b, r, 16 * t]) (ho : x.oo = ![4 + b, r, 16 * t])
    (hm : x.mv = fun _ => mk (r / 2)) (hg : Done xf af mk b t r g) :
    Done xf af mk b t (r + 1) ((bW.access (rowR x.oo x.ho)).write (Elt F) g
      (rowVal x.mv ((bW.access (rowR x.ox x.hx)).read (Elt F) (pl xf)) ((bW.access (rowR x.oa x.ha)).read (Elt F) (pl af))) Finset.univ) := by
  intro j hj0 hj
  by_cases hmem : j ∈ (rowR x.oo x.ho).set
  · have hj' := (mem_rowR ho).1 hmem
    rw [← Rect.map_emb_univ, Finset.mem_map] at hmem
    obtain ⟨y, -, rfl⟩ := hmem
    have e : ∀ (o : Fin 3 → ℕ) (h) (p : ℕ), o = ![p, r, 16 * t] → ∀ a : Fin 3, a ≠ 0 → (rowR o h).emb y a = (rowR x.oo x.ho).emb y a := by
      intro o h p hop a ha
      apply Fin.ext
      rw [Rect.emb_apply, Rect.emb_apply]
      show o a + 1 * _ = x.oo a + 1 * _
      have eo : o a = x.oo a := by
        rw [hop, ho]
        fin_cases a <;> first | exact absurd rfl ha | rfl
      rw [eo]
    refine (View.write_emb_of_mem (v := bW.access (rowR x.oo x.ho)) (Val := Elt F) g _ (Finset.mem_univ y)).trans ?_
    show rowVal x.mv _ _ y = _
    rw [hm, rowVal_apply, read_rowR, read_rowR]
    unfold pl
    rw [e x.ox x.hx b hx 1 (by decide), e x.ox x.hx b hx 2 (by decide), e x.oa x.ha _ ha 1 (by decide), e x.oa x.ha _ ha 2 (by decide), hj'.2.1]
  · have h1 : ¬ (j ∈ (bW.access (rowR x.oo x.ho)).setOn Finset.univ) := by
      rw [View.setOn_univ, set_rowR]; exact hmem
    refine (View.write_of_not_mem (v := bW.access (rowR x.oo x.ho)) (Val := Elt F) g _ Finset.univ h1).trans (hg j hj0 ?_)
    rw [mem_rowR ho] at hmem
    omega

variable (d : Dev nD)

theorem rowsProg_cons (x : Row F) (xs : List (Row F)) : rowsProg L bW (x :: xs)
    = .op (.load bW (rowR x.ox x.hx).toLoadRect (View.loadsAt_vmem h_S1x1x16)) fun u =>
      .op (.load bW (rowR x.oa x.ha).toLoadRect (View.loadsAt_vmem h_S1x1x16)) fun v =>
      .op (.load bW (rowR x.oo x.ho).toLoadRect (View.loadsAt_vmem h_S1x1x16)) fun _ =>
      .op (.store bW (rowR x.oo x.ho) (rowVal x.mv u v) Finset.univ (View.stores_vmem_bits_univ h_S1x1x16 rfl) (.inl rfl)) fun _ =>
      rowsProg L bW xs := rfl

theorem wp_rows (xf af : Fin 16 → Fin 1024 → F .f32) (mk : ℕ → F .f32) (b t : ℕ) : ∀ (xs : List (Row F)) (r : ℕ), Good b t mk r xs →
    iprop((bLoc d L ↦[plane b]{fullShare} pl xf) ∗ (bLoc d L ↦[plane (2 + b)]{fullShare} pl af)
        ∗ ∃ g, ⌜Done xf af mk b t r g⌝ ∗ (bLoc d L ↦[plane (4 + b)]{fullShare} g))
      ⊢ (wp frame (wpE (defs₀ (F := F)) 𝒱₀ (th d L) none) Set.univ (rowsProg L bW xs) fun _ =>
          iprop((bLoc d L ↦[plane b]{fullShare} pl xf) ∗ (bLoc d L ↦[plane (2 + b)]{fullShare} pl af)
            ∗ ∃ g, ⌜Done xf af mk b t (r + xs.length) g⌝ ∗ (bLoc d L ↦[plane (4 + b)]{fullShare} g)) : sProp 𝕄)
  | [], r, _ => by
    show _ ⊢ wp frame _ _ (pure _) _
    rw [wp_pure]
    iintro H
    iexact H
  | x :: xs, r, hgood => by
    obtain ⟨⟨hx, ha, ho, hm⟩, hgood⟩ := hgood
    rw [rowsProg_cons]
    iintro ⟨Hx, Ha, %g, %hg, Ho⟩
    iapply (wp_load_rect 𝒱₀ (th d L) none Set.univ (m := bW) (r := rowR x.ox x.hx) (rowR_subset hx)) $$ Hx
    iintro Hx
    iapply (wp_load_rect 𝒱₀ (th d L) none Set.univ (m := bW) (r := rowR x.oa x.ha) (rowR_subset ha)) $$ Ha
    iintro Ha
    iapply (wp_load_rect 𝒱₀ (th d L) none Set.univ (m := bW) (r := rowR x.oo x.ho) (rowR_subset ho)) $$ Ho
    iintro Ho
    iapply (wp_store 𝒱₀ (th d L) none Set.univ (m := bW) (r := rowR x.oo x.ho) (Mk := Finset.univ) (rowR_subset ho)) $$ Ho
    iintro Ho
    have ih := wp_rows xf af mk b t xs (r + 1) hgood
    rw [List.length_cons, show r + (xs.length + 1) = r + 1 + xs.length by omega]
    iapply ih
    isplitl [Hx]; · iexact Hx
    isplitl [Ha]; · iexact Ha
    iexists _
    isplitr [Ho]
    · ipureintro; exact done_write x hx ha ho hm hg
    · iexact Ho

end Cert.Proof.Attack

end
-- ==== Proof.Geo.lean ====
/-
  Where the copies land: the six planes of the block scratch as copy targets, the sixteen-row blocks of the arrays, and
  what a plane or a block holds after a copy.
-/
module

public import proofs.«01_k».proof.Proof.Row

@[expose] public section

noncomputable section

namespace Cert.Proof.Attack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A plane as a copy's end -/

/-- Plane `p` of the block scratch. -/
abbrev slot (p : ℕ) (h : ∀ a, (![p, 0, 0] : Fin 3 → ℕ) a + S1x16x1024.size a ≤ S6x16x1024.size a) : Memref sig .scVector .vmem S16x1024 .f32 :=
  (bW.slice (Rect.unit (s := S6x16x1024) ![p, 0, 0] S1x16x1024.size h) (fun _ => rfl)).squeeze S16x1024 squeezes_S1x16x1024_S16x1024

/-- Sixteen rows of one of the three large arrays. -/
abbrev rowsR (o : Fin 2 → ℕ) (h : ∀ a, o a + S16x1024.size a ≤ S8192x1024.size a) : Rect S8192x1024 :=
  Rect.unit (s := S8192x1024) o S16x1024.size h

theorem reshape_plane (y : S16x1024.Idx) :
    Shape.reshapeEquiv squeezes_S1x16x1024_S16x1024.numel_eq y = (ValueIdx.ix3 (0 : Fin 1) (y 0) (y 1) : S1x16x1024.Idx) := by
  apply Shape.reshapeEquiv_eq_of_rowMajor
  rw [Shape.rowMajor_val_three, Shape.rowMajor_val_two]
  simp [ValueIdx.ix3]

theorem slot_emb (p : ℕ) (h) (y : S16x1024.Idx) :
    (((slot p h).view.emb y) 0).val = p ∧ ((slot p h).view.emb y) 1 = y 0 ∧ ((slot p h).view.emb y) 2 = y 1 := by
  have e : (slot p h).view.emb y = (Rect.unit (s := S6x16x1024) ![p, 0, 0] S1x16x1024.size h).emb (ValueIdx.ix3 (0 : Fin 1) (y 0) (y 1) : S1x16x1024.Idx) := by
    rw [← reshape_plane]; rfl
  rw [e]
  refine ⟨?_, Fin.ext ?_, Fin.ext ?_⟩
  · rw [Rect.emb_apply]; show p + 1 * 0 = p; omega
  · rw [Rect.emb_apply]; show 0 + 1 * (y 0).val = _; omega
  · rw [Rect.emb_apply]; show 0 + 1 * (y 1).val = _; omega

theorem slot_set (p : ℕ) (h) : (slot p h).view.set = plane p := by
  ext j
  rw [mem_plane]
  constructor
  · intro hj
    obtain ⟨y, -, rfl⟩ := Finset.mem_map.1 hj
    exact (slot_emb p h y).1
  · intro hj
    refine Finset.mem_map.2 ⟨(ValueIdx.ix2 (j 1) (j 2) : S16x1024.Idx), Finset.mem_univ _, ?_⟩
    have := slot_emb p h (ValueIdx.ix2 (j 1) (j 2) : S16x1024.Idx)
    funext a
    match a with
    | ⟨0, _⟩ => exact Fin.ext (this.1.trans hj.symm)
    | ⟨1, _⟩ => exact this.2.1
    | ⟨2, _⟩ => exact this.2.2

/-- What the plane's view reads of contents given by row and column. -/
theorem slot_read (p : ℕ) (h) (g : S6x16x1024.Idx → F .f32) (y : S16x1024.Idx) :
    (slot p h).view.read (Elt F) g y = g ((slot p h).view.emb y) := rfl

/-- A plane after a copy into it. -/
theorem slot_write (p : ℕ) (h) (g : S6x16x1024.Idx → F .f32) (w : S16x1024.Idx → F .f32) (f : Fin 16 → Fin 1024 → F .f32)
    (hw : ∀ y : S16x1024.Idx, w y = f (y 0) (y 1)) : ∀ j ∈ plane p, (slot p h).view.write (Elt F) g w Finset.univ j = pl f j := by
  intro j hj
  rw [← slot_set p h] at hj
  obtain ⟨y, -, rfl⟩ := Finset.mem_map.1 hj
  refine (View.write_emb_of_mem (v := (slot p h).view) (Val := Elt F) g w (Finset.mem_univ y)).trans ?_
  show w y = _
  rw [hw, pl, (slot_emb p h y).2.1, (slot_emb p h y).2.2]

/-! ## A block of the large arrays -/

theorem rows_emb {o : Fin 2 → ℕ} {h} {n : ℕ} (ho : o = ![n, 0]) (y : S16x1024.Idx) : (rowsR o h).emb y = row (n + (y 0).val) (y 1) := by
  subst ho
  have h0 := h 0
  have hy := (y 0).isLt
  simp only [S16x1024, S8192x1024, Matrix.cons_val_zero] at h0 hy
  funext a
  match a with
  | ⟨0, _⟩ =>
    apply Fin.ext
    rw [Rect.emb_apply]
    show n + 1 * (y 0).val = (n + (y 0).val) % 8192
    rw [Nat.mod_eq_of_lt (by omega)]; omega
  | ⟨1, _⟩ =>
    apply Fin.ext
    rw [Rect.emb_apply]
    show 0 + 1 * (y 1).val = (y 1).val
    omega

theorem mem_rowsR {o : Fin 2 → ℕ} {h} {n : ℕ} (ho : o = ![n, 0]) {j : S8192x1024.Idx} : j ∈ (rowsR o h).set ↔ n ≤ (j 0).val ∧ (j 0).val < n + 16 := by
  subst ho
  rw [Rect.mem_set_unit, Fin.forall_fin_two]
  have := (j 1).isLt
  simp only [Matrix.cons_val_zero, Matrix.cons_val_one, S16x1024, S8192x1024] at this ⊢
  omega

end Cert.Proof.Attack

end
-- ==== Proof.Half.lean ====
/-
  What one block's work is made of: the loop over its column steps, the wait for a copy, and a copy of sixteen rows of an
  operand into a plane of the block scratch.
-/
module

public import proofs.«01_k».proof.Proof.Geo

@[expose] public section

noncomputable section

namespace Cert.Proof.Attack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The inner loops -/

theorem done_next {xf af : Fin 16 → Fin 1024 → F .f32} {mk : ℕ → F .f32} {b t : ℕ} {g : S6x16x1024.Idx → F .f32}
    (h : Done xf af mk b t 16 g) : Done xf af mk b (t + 1) 0 g := by
  intro j hj0 hj
  have h1 : (j 1).val < 16 := (j 1).isLt
  exact h j hj0 (by omega)

variable (d : Dev nD) (L : grid0.Coords)

/-- The planes of parity `b` before a column step: the operands' blocks, and the result's done up to there. -/
def Planes (xf af : Fin 16 → Fin 1024 → F .f32) (mk : ℕ → F .f32) (b t : ℕ) : sProp 𝕄 :=
  iprop((bLoc d L ↦[plane b]{fullShare} pl xf) ∗ (bLoc d L ↦[plane (2 + b)]{fullShare} pl af)
    ∗ ∃ g, ⌜Done xf af mk b t 0 g⌝ ∗ (bLoc d L ↦[plane (4 + b)]{fullShare} g))

/-- A column step over sixteen rows. -/
theorem wp_step (xf af : Fin 16 → Fin 1024 → F .f32) (mk : ℕ → F .f32) (b t : ℕ) (xs : List (Row F)) (hl : xs.length = 16)
    (hg : Good b t mk 0 xs) :
    Planes d L xf af mk b t
      ⊢ (wp frame (wpE (defs₀ (F := F)) 𝒱₀ (th d L) none) Set.univ (rowsProg L bW xs) fun _ => Planes d L xf af mk b (t + 1) : sProp 𝕄) := by
  refine (wp_rows L d xf af mk b t xs 0 hg).trans (wp_mono frame _ _ fun _ => ?_)
  unfold Planes
  rw [hl]
  iintro ⟨Hx, Ha, %g, %h, Hg⟩
  isplitl [Hx]; · iexact Hx
  isplitl [Ha]; · iexact Ha
  iexists g
  isplitr [Hg]
  · ipureintro; exact done_next h
  · iexact Hg

variable (t1 : Fin k0_t1_loop.trips) (v3 v82 : BitVec 32)

theorem wp_loop2 (xf af : Fin 16 → Fin 1024 → F .f32) (w : Vec F S16 .f32) :
    Planes d L xf af (laneOf w) 0 0
      ⊢ (wp frame (wpE (defs₀ (F := F)) 𝒱₀ (th d L) none) Set.univ
          (Scf.Loop.for k0_t2_loop k0_t2_ok ⟨⟩ (body2 L t1 v3 v82 (k0_pay39 w) (k0_pay40 w) (k0_pay41 w)))
          fun _ => Planes d L xf af (laneOf w) 0 64 : sProp 𝕄) := by
  iintro H
  iapply (Scf.wp_for frame (wpE (defs₀ (F := F)) 𝒱₀ (th d L) none) Set.univ k0_t2_loop.lb k0_t2_loop.ub k0_t2_loop.st k0_t2_ok ⟨⟩
    (body2 L t1 v3 v82 (k0_pay39 w) (k0_pay40 w) (k0_pay41 w)) (fun t _ => Planes d L xf af (laneOf w) 0 t) (fun t u => by
      rw [body2_eq]
      exact wp_step d L xf af (laneOf w) 0 t.val _ rfl (good2 w t)))
  isplitl [H]
  · iexact H
  · iintro %_ H; iexact H

theorem wp_loop3 (v155 : BitVec 32) (xf af : Fin 16 → Fin 1024 → F .f32) (w : Vec F S16 .f32) :
    Planes d L xf af (laneOf w) 1 0
      ⊢ (wp frame (wpE (defs₀ (F := F)) 𝒱₀ (th d L) none) Set.univ
          (Scf.Loop.for k0_t3_loop k0_t3_ok ⟨⟩ (body3 L t1 v3 v155 w))
          fun _ => Planes d L xf af (laneOf w) 1 64 : sProp 𝕄) := by
  iintro H
  iapply (Scf.wp_for frame (wpE (defs₀ (F := F)) 𝒱₀ (th d L) none) Set.univ k0_t3_loop.lb k0_t3_loop.ub k0_t3_loop.st k0_t3_ok ⟨⟩
    (body3 L t1 v3 v155 w) (fun t _ => Planes d L xf af (laneOf w) 1 t) (fun t u => by
      rw [body3_eq]
      exact wp_step d L xf af (laneOf w) 1 t.val _ rfl (good3 w t)))
  isplitl [H]
  · iexact H
  · iintro %_ H; iexact H

/-! ## Transfers under way -/

/-- The index the kernel's transfers are counted at. -/
abbrev ι₀ : HIx 1 := default

/-- The amounts a plane's copy and a block's copy signal. -/
abbrev nIn : ℕ := (slot 0 inb_S6x16x1024_S1x16x1024_0_0_0).view.dmaCredit
abbrev nOut : ℕ := (oW.slice (rowsR ![0, 0] inb_S8192x1024_S16x1024_0_0) (fun _ => rfl)).view.dmaCredit

/-- A transfer under way that, once awaited, yields `R`. -/
def Pend (s : DmaSem sig) (N : ℕ) (R : sProp 𝕄) : sProp 𝕄 :=
  iprop(∃ E : sProp 𝕄, Transfers.Flight countersEmb (th d L) (.dma s) ι₀ N E ∗ (E -∗ R))

/-- The waits so far: the caller's and the kernel's own. -/
def Owed (O : CellTallies nD τ sig (HIx 1)) (W : Waits sig (HIx 1)) : sProp 𝕄 :=
  iprop(∃ W', ⌜∀ p ∈ W', p ∈ W ∨ p.2 = none⌝ ∗ owes (th d L) O W')

/-- Awaiting a transfer under way. -/
theorem wp_await {s : DmaSem sig} {N : ℕ} {R : sProp 𝕄} {O : CellTallies nD τ sig (HIx 1)} {W : Waits sig (HIx 1)}
    {α : Type} {Q : α → sProp 𝕄} {sp sp' : Space} {sh sh' : Shape} {e e' : EltTy} {κ' : Kind}
    {srcw : Memref sig (th d L).2.kind sp' sh' e'} {dstw : Memref sig κ' sp sh e} {hsrc : srcw.view.WordExact} {hdst : dstw.view.WordExact}
    {k : PUnit → Prog (TpuEff nD τ sig (Elt F) Λ₀ (th d L).2) α} (hN : dstw.view.dmaCredit = N) :
    iprop(Pend d L s N R ∗ Transfers.MayWaits (th d L) ι₀ O ∗ Owed d L O W)
      ⊢ iprop((iprop(R ∗ semVal (th d L, SemLoc.dma s) 0 ∗ Owed d L O W) -∗ wp frame (wpE (defs₀ (F := F)) 𝒱₀ (th d L) none) Set.univ (k ⟨⟩) Q)
          -∗ wp frame (wpE (defs₀ (F := F)) 𝒱₀ (th d L) none) Set.univ (.op (.waitDma2 s srcw dstw hsrc hdst) k) Q) := by
  unfold Pend Owed
  iintro ⟨⟨%E, Hfl, HE⟩, Hmw, %W', %hW, HO⟩ Hk
  iapply (Transfers.wp_waitLocalO countersEmb 𝒱₀ (th d L) none ι₀ hN) $$ [Hfl HO Hmw]
  · isplitl [Hfl]; · iexact Hfl
    isplitl [HO]; · iexact HO
    iapply (Transfers.MayWaits.elim (SemLoc.dma s)) $$ Hmw
  iintro ⟨HD, Hs, HO⟩
  iapply Hk
  isplitl [HE HD]; · iapply HE $$ HD
  isplitl [Hs]; · iexact Hs
  iexists (insert (SemLoc.dma s, ι₀) W')
  isplitr [HO]
  · ipureintro
    intro p hp
    rcases Finset.mem_insert.1 hp with rfl | hp
    · exact Or.inr (show ι₀ = none from rfl)
    · exact hW p hp
  · iexact HO

/-! ## Fetching a block -/

theorem slot_inb (p : ℕ) (hp : p < 6) : ∀ a, (![p, 0, 0] : Fin 3 → ℕ) a + S1x16x1024.size a ≤ S6x16x1024.size a := by
  intro a
  fin_cases a
  · show p + 1 ≤ 6; omega
  · show 0 + 16 ≤ 16; omega
  · show 0 + 1024 ≤ 1024; omega

/-- A block on its way into plane `p`: the plane will hold the sixteen rows from `n` on, and the array's share comes back. -/
def Fetch (s : DmaSem sig) (p : ℕ) (ℓ : Loc nD τ sig) (q : PosShare TreeShare) (f : Buf (Elt F) ℓ) (X : S8192x1024.Idx → F .f32) (n : ℕ) : sProp 𝕄 :=
  Pend d L s nIn iprop((bLoc d L ↦[plane p]{fullShare} pl (rowsAt X n)) ∗ (ℓ ↦[Finset.univ]{q} f))

theorem wp_fetch {m : Memref sig .scVector .hbm S8192x1024 .f32} {q : PosShare TreeShare} {f : Buf (Elt F) (m.view.loc (th d L))}
    {X : S8192x1024.Idx → F .f32} (hX : ∀ i, m.view.read (Elt F) f i = X i) {o : Fin 2 → ℕ} {h} {n : ℕ} (ho : o = ![n, 0])
    {p : ℕ} {hp} {s : DmaSem sig} {h1 h2 h3} {α : Type} {Q : α → sProp 𝕄} {g : S6x16x1024.Idx → F .f32}
    {k : PUnit → Prog (TpuEff nD τ sig (Elt F) Λ₀ (th d L).2) α} :
    iprop((bLoc d L ↦[plane p]{fullShare} g) ∗ (m.view.loc (th d L) ↦[Finset.univ]{q} f) ∗ semVal (th d L, SemLoc.dma s) 0)
      ⊢ iprop((Fetch d L s p (m.view.loc (th d L)) q f X n -∗ wp frame (wpE (defs₀ (F := F)) 𝒱₀ (th d L) none) Set.univ (k ⟨⟩) Q)
          -∗ wp frame (wpE (defs₀ (F := F)) 𝒱₀ (th d L) none) Set.univ
              (.op (.enqueueDma (m.slice (rowsR o h) (fun _ => rfl)) (.here (slot p hp)) (.dma s) h1 h2 h3) k) Q) := by
  have hw : ∀ y : S16x1024.Idx, (m.slice (rowsR o h) (fun _ => rfl)).view.read (Elt F) f y = rowsAt X n (y 0) (y 1) := fun y => by
    show m.view.read (Elt F) f ((rowsR o h).emb y) = _
    rw [hX, rows_emb ho]; rfl
  iintro ⟨Hb, Hm, Hs⟩ Hk
  ihave Hm' := (pointsTo_split_subset (Finset.subset_univ (m.slice (rowsR o h) (fun _ => rfl)).view.set)).1 $$ Hm
  icases Hm' with ⟨Hm, Hr⟩
  iapply (Transfers.wp_dmaLocal countersEmb 𝒱₀ (th d L) none (src := m.slice (rowsR o h) (fun _ => rfl)) (dst := slot p hp) (Sd := plane p) ι₀ nIn rfl
    (View.dmaCredit_pos _ (by decide)) (slot_set p hp).subset) $$ [Hb Hm Hs]
  · isplitl [Hm]; · iexact Hm
    isplitl [Hb]; · iexact Hb
    iexact Hs
  iintro Hfl
  iapply Hk
  unfold Fetch Pend
  iexists _
  isplitl [Hfl]; · iexact Hfl
  iintro ⟨Hb, Hm⟩
  isplitl [Hb]
  · iapply (Entails.of_eq (pointsTo_congr (slot_write p hp g _ (rowsAt X n) hw))) $$ Hb
  · iapply (pointsTo_split_subset (Finset.subset_univ (m.slice (rowsR o h) (fun _ => rfl)).view.set)).2
    isplitl [Hm] <;> iassumption

end Cert.Proof.Attack

end
-- ==== Proof.Trip.lean ====
/-
  One block's work, start to end: its operands' copies awaited, the block combined, the result sent out, the operands'
  next block fetched. A trip of the outer loop is one such block of each parity.
-/
module

public import proofs.«01_k».proof.Proof.Half

@[expose] public section

noncomputable section

namespace Cert.Proof.Attack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The output's rows of one parity -/

/-- The tile's output rows of parity `b` in the first `k` trips hold the kernel's result. -/
def OutOK (X A : S8192x1024.Idx → F .f32) (M : S4096.Idx → F .f32) (w b k : ℕ) (f : S8192x1024.Idx → F .f32) : Prop :=
  ∀ j ∈ oSet w b, (j 0).val < 256 * w + 32 * k → f j = out X A M j

/-- Sixteen rows of the output as a copy's end. -/
abbrev oSl (o : Fin 2 → ℕ) (h : ∀ a, o a + S16x1024.size a ≤ S8192x1024.size a) : Memref sig .scVector .hbm S16x1024 .f32 :=
  oW.slice (rowsR o h) (fun _ => rfl)

theorem oSl_set (o : Fin 2 → ℕ) (h) : (oSl o h).view.set = (rowsR o h).set := View.set_slice_whole _ _

theorem oSl_subset {o : Fin 2 → ℕ} {h} {w b k : ℕ} (hb : b < 2) (hk : k < 8) (ho : o = ![256 * w + 32 * k + 16 * b, 0]) :
    (oSl o h).view.set ⊆ oSet w b := by
  rw [oSl_set]
  intro j hj
  have := (mem_rowsR ho).1 hj
  rw [mem_oSet]
  omega

/-- Copying a finished block out completes the next block of the output's rows. -/
theorem outOK_write {X A : S8192x1024.Idx → F .f32} {M : S4096.Idx → F .f32} {w b k : ℕ} {fo : S8192x1024.Idx → F .f32}
    {g : S6x16x1024.Idx → F .f32} {mk : ℕ → F .f32} {o : Fin 2 → ℕ} {h} {hp} (hb : b < 2) (hk : k < 8)
    (ho : o = ![256 * w + 32 * k + 16 * b, 0]) (hf : OutOK X A M w b k fo)
    (hg : Done (rowsAt X (256 * w + 32 * k + 16 * b)) (rowsAt A (256 * w + 32 * k + 16 * b)) mk b 64 0 g)
    (hmk : ∀ j < 8, mk j = M (mrow (128 * w + 16 * k + 8 * b + j))) :
    OutOK X A M w b (k + 1) ((oSl o h).view.write (Elt F) fo ((slot (4 + b) hp).view.read (Elt F) g) Finset.univ) := by
  intro j hj hlt
  by_cases hmem : j ∈ (oSl o h).view.set
  · have hr := (mem_rowsR (h := h) ho).1 (by rw [← oSl_set]; exact hmem)
    obtain ⟨y, -, rfl⟩ := Finset.mem_map.1 hmem
    refine (View.write_emb_of_mem (v := (oSl o h).view) (Val := Elt F) fo _ (Finset.mem_univ y)).trans ?_
    show g ((slot (4 + b) hp).view.emb y) = _
    have hs := slot_emb (4 + b) hp y
    have hy0 : (y 0).val < 16 := (y 0).isLt
    have hy1 : (y 1).val < 1024 := (y 1).isLt
    rw [hg _ hs.1 (Or.inl (by rw [hs.2.2]; exact hy1)), hs.2.1, hs.2.2, hmk _ (by omega)]
    have he : (oSl o h).view.emb y = row (256 * w + 32 * k + 16 * b + (y 0).val) (y 1) := rows_emb ho y
    have h0 := h 0
    rw [ho] at h0
    have h0' : 256 * w + 32 * k + 16 * b + 16 ≤ 8192 := h0
    have hn : ((oSl o h).view.emb y 0).val = 256 * w + 32 * k + 16 * b + (y 0).val := by
      rw [he]; exact Nat.mod_eq_of_lt (by omega)
    unfold out
    rw [hn, he, show (256 * w + 32 * k + 16 * b + (y 0).val) / 2 = 128 * w + 16 * k + 8 * b + (y 0).val / 2 by omega]
    rfl
  · refine (View.write_of_not_mem (v := (oSl o h).view) (Val := Elt F) fo _ Finset.univ (by rw [View.setOn_univ]; exact hmem)).trans (hf j hj ?_)
    rw [oSl_set, mem_rowsR ho] at hmem
    rw [mem_oSet] at hj
    omega

variable (X A : S8192x1024.Idx → F .f32) (M : S4096.Idx → F .f32) (fz : S16x1024.Idx → F .f32)

/-- What a parity's outgoing transfer gives back before trip `k`: the result's plane, the output's rows done so far, the
    discarded array's rows and a share of the scratch they were filled from. -/
def OutInv (b : ℕ) (q : PosShare TreeShare) (k : ℕ) : sProp 𝕄 :=
  iprop((∃ g, bLoc d L ↦[plane (4 + b)]{fullShare} g) ∗ (∃ f, ⌜OutOK X A M (wid L) b k f⌝ ∗ (oLoc d ↦[oSet (wid L) b]{fullShare} f))
    ∗ (∃ f, tLoc d ↦[tSet (wid L) b]{fullShare} f) ∗ (zLoc d L ↦[Finset.univ]{q} fz))

/-- Sending a finished block out. -/
theorem wp_send {b k : ℕ} {q : PosShare TreeShare} {fo : S8192x1024.Idx → F .f32}
    {g : S6x16x1024.Idx → F .f32} {mk : ℕ → F .f32} {o : Fin 2 → ℕ} {h} {hp} (hb : b < 2) (hk : k < 8)
    (ho : o = ![256 * wid L + 32 * k + 16 * b, 0]) (hf : OutOK X A M (wid L) b k fo)
    (hg : Done (rowsAt X (256 * wid L + 32 * k + 16 * b)) (rowsAt A (256 * wid L + 32 * k + 16 * b)) mk b 64 0 g)
    (hmk : ∀ j < 8, mk j = M (mrow (128 * wid L + 16 * k + 8 * b + j)))
    {s : DmaSem sig} {h1 h2 h3} {α : Type} {Q : α → sProp 𝕄} {kk : PUnit → Prog (TpuEff nD τ sig (Elt F) Λ₀ (th d L).2) α} :
    iprop((bLoc d L ↦[plane (4 + b)]{fullShare} g) ∗ (oLoc d ↦[oSet (wid L) b]{fullShare} fo)
        ∗ (∃ f, tLoc d ↦[tSet (wid L) b]{fullShare} f) ∗ (zLoc d L ↦[Finset.univ]{q} fz) ∗ semVal (th d L, SemLoc.dma s) 0)
      ⊢ iprop((Pend d L s nOut (OutInv d L X A M fz b q (k + 1)) -∗ wp frame (wpE (defs₀ (F := F)) 𝒱₀ (th d L) none) Set.univ (kk ⟨⟩) Q)
          -∗ wp frame (wpE (defs₀ (F := F)) 𝒱₀ (th d L) none) Set.univ
              (.op (.enqueueDma (slot (4 + b) hp) (.here (oSl o h)) (.dma s) h1 h2 h3) kk) Q) := by
  iintro ⟨Hb, Ho, Ht, Hz, Hs⟩ Hk
  ihave Hb := (Entails.of_eq (show (bLoc d L ↦[plane (4 + b)]{fullShare} g : sProp 𝕄) = bLoc d L ↦[(slot (4 + b) hp).view.set]{fullShare} g by rw [slot_set])) $$ Hb
  iapply (Transfers.wp_dmaLocal countersEmb 𝒱₀ (th d L) none (src := slot (4 + b) hp) (dst := oSl o h) (Sd := oSet (wid L) b) ι₀ nOut rfl
    (View.dmaCredit_pos _ (by decide)) (oSl_subset hb hk ho)) $$ [Hb Ho Hs]
  · isplitl [Hb]; · iexact Hb
    isplitl [Ho]; · iexact Ho
    iexact Hs
  iintro Hfl
  iapply Hk
  unfold Pend OutInv
  iexists _
  isplitl [Hfl]; · iexact Hfl
  iintro ⟨Ho, Hb⟩
  isplitl [Hb]
  · iexists g
    iapply (Entails.of_eq (show (bLoc d L ↦[(slot (4 + b) hp).view.set]{fullShare} g : sProp 𝕄) = bLoc d L ↦[plane (4 + b)]{fullShare} g by rw [slot_set])) $$ Hb
  isplitl [Ho]
  · iexists ((oSl o h).view.write (Elt F) fo ((slot (4 + b) hp).view.read (Elt F) g) Finset.univ)
    isplitr [Ho]
    · ipureintro; exact outOK_write hb hk ho hf hg hmk
    · iexact Ho
  isplitl [Ht]; · iexact Ht
  iexact Hz

/-! ## A block's program -/

/-- The first rows of the large arrays, as the waits name them. -/
abbrev rows0 : Rect S8192x1024 := rowsR ![0, 0] inb_S8192x1024_S16x1024_0_0

/-- Programs of the tile. -/
abbrev TProg : Type 1 := Prog (TpuEff nD τ sig (Elt F) Λ₀ (.scVector ((L 0).castLE hcore0) ((L 1).castLE hsub0))) Unit

/-- A parity's three waits: for its operands' fetches, then for its result's last transfer. -/
def awaitProg (b : ℕ) (hb : b < 2) (sx sa so : DmaSem sig) (kk : TProg (F := F) L) : TProg (F := F) L :=
  .op (.waitDma2 sx (xW.slice rows0 (fun _ => rfl)) (slot b (slot_inb _ (by omega))) (View.wordExact_bits rfl) ((View.wordExact_bits rfl).reshape _ _)) fun _ =>
  .op (.waitDma2 sa (aW.slice rows0 (fun _ => rfl)) (slot (2 + b) (slot_inb _ (by omega))) (View.wordExact_bits rfl) ((View.wordExact_bits rfl).reshape _ _)) fun _ =>
  .op (.waitDma2 so (slot (4 + b) (slot_inb _ (by omega))) (oW.slice rows0 (fun _ => rfl)) ((View.wordExact_bits rfl).reshape _ _) (View.wordExact_bits rfl)) fun _ =>
  kk

/-- A parity's two fetches. -/
def fetchProg (b : ℕ) (hb : b < 2) (sx sa : DmaSem sig) (of : Fin 2 → ℕ) (hf : ∀ a, of a + S16x1024.size a ≤ S8192x1024.size a)
    (kk : TProg (F := F) L) : TProg (F := F) L :=
  .op (.enqueueDma (xW.slice (rowsR of hf) (fun _ => rfl)) (.here (slot b (slot_inb _ (by omega)))) (.dma sx) (View.wordExact_bits rfl) ((View.wordExact_bits rfl).reshape _ _) ⟨Or.inl rfl, trivial⟩) fun _ =>
  .op (.enqueueDma (aW.slice (rowsR of hf) (fun _ => rfl)) (.here (slot (2 + b) (slot_inb _ (by omega)))) (.dma sa) (View.wordExact_bits rfl) ((View.wordExact_bits rfl).reshape _ _) ⟨Or.inl rfl, trivial⟩) fun _ =>
  kk

/-- One block's operations, `loop` the inner loop over its columns and `kk` what follows. -/
def halfProg (b : ℕ) (hb : b < 2) (sx sa so : DmaSem sig) (om : Fin 1 → ℕ) (hm : ∀ a, om a + S16.size a ≤ S144.size a)
    (loop : Vec F S16 .f32 → TProg (F := F) L)
    (oo : Fin 2 → ℕ) (ho : ∀ a, oo a + S16x1024.size a ≤ S8192x1024.size a)
    (of : Fin 2 → ℕ) (hf : ∀ a, of a + S16x1024.size a ≤ S8192x1024.size a) (kk : TProg (F := F) L) : TProg (F := F) L :=
  awaitProg L b hb sx sa so <|
  .op (.load kW (Rect.unit (s := S144) om S16.size hm).toLoadRect (View.loadsAt_vmem h_S16)) fun w =>
  loop w >>= fun _ =>
  .op (.enqueueDma (slot (4 + b) (slot_inb _ (by omega))) (.here (oSl oo ho)) (.dma so) ((View.wordExact_bits rfl).reshape _ _) (View.wordExact_bits rfl) ⟨Or.inl rfl, trivial⟩) fun _ =>
  fetchProg L b hb sx sa of hf kk

/-- The outer loop's body. -/
abbrev body1 (v3 : BitVec 32) :=
  k0_t1_body (F := F) L xW (Memref.isWhole_whole _) aW (Memref.isWhole_whole _) mW (Memref.isWhole_whole _) oW (Memref.isWhole_whole _)
    tW (Memref.isWhole_whole _) kW (Memref.isWhole_whole _) bW (Memref.isWhole_whole _) zW (Memref.isWhole_whole _)
    cc0_scratch3 cc0_scratch4 cc0_scratch5 cc0_scratch6 cc0_scratch7 cc0_scratch8 cc0_scoped0 v3

/-- The induction variable of trip `t`, doubled. -/
abbrev dbl (t : Fin k0_t1_loop.trips) : BitVec 32 := Scalar.muli (Scf.iv 0#32 1#32 t) 2#32

set_option maxRecDepth 65536 in
/-- A trip is a block of parity 0, then one of parity 1. -/
theorem body1_eq (v3 : BitVec 32) (t : Fin k0_t1_loop.trips) (u : Unit) :
    body1 (F := F) L v3 t u
      = halfProg L 0 (by decide) cc0_scratch3.sem cc0_scratch5.sem cc0_scratch7.sem (k0_off4 t) (k0_off4_inb t)
          (fun w => Scf.Loop.for k0_t2_loop k0_t2_ok ⟨⟩ (body2 L t v3 (dbl t) (k0_pay39 w) (k0_pay40 w) (k0_pay41 w)))
          (k0_off53 L t) (k0_off53_inb L t) (k0_off54 L t) (k0_off54_inb L t)
          (halfProg L 1 (by decide) cc0_scratch4.sem cc0_scratch6.sem cc0_scratch8.sem (k0_off55 t) (k0_off55_inb t)
            (fun w => Scf.Loop.for k0_t3_loop k0_t3_ok ⟨⟩ (body3 L t v3 (Scalar.addi (dbl t) 1#32) w))
            (k0_off104 L t) (k0_off104_inb L t) (k0_off105 L t) (k0_off105_inb L t) (pure ⟨⟩)) := by
  unfold body1 k0_t1_body
  simp only [k0_part13_eq_skeleton, k0_part14_eq_skeleton, k0_part15_eq_skeleton, k0_part16_eq_skeleton]
  unfold k0_part13_skel k0_part14_skel k0_part15_skel k0_part16_skel halfProg awaitProg fetchProg
  simp only [bind_assoc]
  rfl

/-- What a trip's block needs and leaves: its operands under way, its result's last transfer under way. -/
def Par (b : ℕ) (qx qz : PosShare TreeShare) (sx sa so : DmaSem sig) (n k : ℕ) : sProp 𝕄 :=
  iprop(Fetch d L sx b (xLoc d) qx X X n ∗ Fetch d L sa (2 + b) (aLoc d) qx A A n ∗ Pend d L so nOut (OutInv d L X A M fz b qz k))

/-- The mask scratch holds the tile's part of the mask. -/
def MaskOK (w : ℕ) (f : S144.Idx → F .f32) : Prop := ∀ j : S144.Idx, (j 0).val < 128 → f j = M (mrow (128 * w + (j 0).val))

theorem mask_lane {w n : ℕ} {f : S144.Idx → F .f32} (hf : MaskOK M w f) {o : Fin 1 → ℕ} {h : ∀ a, o a + S16.size a ≤ S144.size a} (ho : o = ![n])
    (j : ℕ) (hj : j < 8) (hn : n + 8 ≤ 128) :
    laneOf ((kW.access (Rect.unit (s := S144) o S16.size h)).read (Elt F) f) j = M (mrow (128 * w + n + j)) := by
  rw [laneOf, dif_pos (by omega)]
  refine (hf _ ?_).trans ?_
  · show o 0 + 1 * j < 128
    rw [ho]; show n + 1 * j < 128; omega
  · show M (mrow (128 * w + (o 0 + 1 * j))) = _
    rw [show 128 * w + (o 0 + 1 * j) = 128 * w + n + j by rw [ho]; show 128 * w + (n + 1 * j) = _; omega]

/-- What the fetches give: both operands' planes, and their arrays' shares back. -/
def Operands (b : ℕ) (qx : PosShare TreeShare) (n : ℕ) : sProp 𝕄 :=
  iprop((bLoc d L ↦[plane b]{fullShare} pl (rowsAt X n)) ∗ (bLoc d L ↦[plane (2 + b)]{fullShare} pl (rowsAt A n))
    ∗ (xLoc d ↦[Finset.univ]{qx} X) ∗ (aLoc d ↦[Finset.univ]{qx} A))

theorem wp_awaits {O : CellTallies nD τ sig (HIx 1)} {W : Waits sig (HIx 1)} {b k n : ℕ} (hb : b < 2) {qx qz : PosShare TreeShare}
    {sx sa so : DmaSem sig} {kk : TProg (F := F) L} {Q : Unit → sProp 𝕄} :
    iprop(Par d L X A M fz b qx qz sx sa so n k ∗ Transfers.MayWaits (th d L) ι₀ O ∗ Owed d L O W)
      ⊢ iprop((iprop(Operands d L X A b qx n ∗ OutInv d L X A M fz b qz k ∗ semVal (th d L, SemLoc.dma sx) 0 ∗ semVal (th d L, SemLoc.dma sa) 0
              ∗ semVal (th d L, SemLoc.dma so) 0 ∗ Owed d L O W)
            -∗ wp frame (wpE (defs₀ (F := F)) 𝒱₀ (th d L) none) Set.univ kk Q)
          -∗ wp frame (wpE (defs₀ (F := F)) 𝒱₀ (th d L) none) Set.univ (awaitProg L b hb sx sa so kk) Q) := by
  unfold Par awaitProg
  iintro ⟨⟨Hx, Ha, Ho⟩, #Hmw, HO⟩ Hk
  unfold Fetch
  iapply (wp_await d L (rfl : (slot b (slot_inb _ (by omega))).view.dmaCredit = nIn)) $$ [Hx HO]
  · isplitl [Hx]; · iexact Hx
    isplitr [HO]; · iexact Hmw
    iexact HO
  iintro ⟨⟨Hbx, Hx⟩, Hsx, HO⟩
  iapply (wp_await d L (rfl : (slot (2 + b) (slot_inb _ (by omega))).view.dmaCredit = nIn)) $$ [Ha HO]
  · isplitl [Ha]; · iexact Ha
    isplitr [HO]; · iexact Hmw
    iexact HO
  iintro ⟨⟨Hba, Ha⟩, Hsa, HO⟩
  iapply (wp_await d L (rfl : (oW.slice rows0 (fun _ => rfl)).view.dmaCredit = nOut)) $$ [Ho HO]
  · isplitl [Ho]; · iexact Ho
    isplitr [HO]; · iexact Hmw
    iexact HO
  iintro ⟨HR, Hso, HO⟩
  iapply Hk
  unfold Operands
  isplitl [Hbx Hba Hx Ha]
  · isplitl [Hbx]; · iexact Hbx
    isplitl [Hba]; · iexact Hba
    isplitl [Hx]; · iexact Hx
    iexact Ha
  isplitl [HR]; · iexact HR
  isplitl [Hsx]; · iexact Hsx
  isplitl [Hsa]; · iexact Hsa
  isplitl [Hso]; · iexact Hso
  iexact HO

theorem wp_fetches {b n : ℕ} (hb : b < 2) {qx : PosShare TreeShare} {sx sa : DmaSem sig} {of : Fin 2 → ℕ} {hf} (hof : of = ![n, 0])
    {gx ga : S6x16x1024.Idx → F .f32} {kk : TProg (F := F) L} {Q : Unit → sProp 𝕄} :
    iprop((bLoc d L ↦[plane b]{fullShare} gx) ∗ (bLoc d L ↦[plane (2 + b)]{fullShare} ga)
        ∗ (xLoc d ↦[Finset.univ]{qx} X) ∗ (aLoc d ↦[Finset.univ]{qx} A) ∗ semVal (th d L, SemLoc.dma sx) 0 ∗ semVal (th d L, SemLoc.dma sa) 0)
      ⊢ iprop((iprop(Fetch d L sx b (xLoc d) qx X X n ∗ Fetch d L sa (2 + b) (aLoc d) qx A A n)
            -∗ wp frame (wpE (defs₀ (F := F)) 𝒱₀ (th d L) none) Set.univ kk Q)
          -∗ wp frame (wpE (defs₀ (F := F)) 𝒱₀ (th d L) none) Set.univ (fetchProg L b hb sx sa of hf kk) Q) := by
  unfold fetchProg
  iintro ⟨Hbx, Hba, Hx, Ha, Hsx, Hsa⟩ Hk
  iapply (wp_fetch d L (m := xW) (X := X) (fun _ => rfl) hof) $$ [Hbx Hx Hsx]
  · isplitl [Hbx]; · iexact Hbx
    isplitl [Hx]; · iexact Hx
    iexact Hsx
  iintro Hx
  iapply (wp_fetch d L (m := aW) (X := A) (fun _ => rfl) hof) $$ [Hba Ha Hsa]
  · isplitl [Hba]; · iexact Hba
    isplitl [Ha]; · iexact Ha
    iexact Hsa
  iintro Ha
  iapply Hk
  isplitl [Hx]; · iexact Hx
  iexact Ha

theorem wp_half {O : CellTallies nD τ sig (HIx 1)} {W : Waits sig (HIx 1)} {b k n' : ℕ} (hb : b < 2) (hk : k < 8) {qx qz : PosShare TreeShare}
    {sx sa so : DmaSem sig} {om : Fin 1 → ℕ} {hm} (hom : om = ![16 * k + 8 * b])
    {loop : Vec F S16 .f32 → TProg (F := F) L}
    (hloop : ∀ (xf af : Fin 16 → Fin 1024 → F .f32) (w : Vec F S16 .f32), Planes d L xf af (laneOf w) b 0
      ⊢ (wp frame (wpE (defs₀ (F := F)) 𝒱₀ (th d L) none) Set.univ (loop w) fun _ => Planes d L xf af (laneOf w) b 64 : sProp 𝕄))
    {oo : Fin 2 → ℕ} {ho} (hoo : oo = ![256 * wid L + 32 * k + 16 * b, 0]) {of : Fin 2 → ℕ} {hf} (hof : of = ![n', 0])
    {fm : S144.Idx → F .f32} (hfm : MaskOK M (wid L) fm)
    {kk : TProg (F := F) L} {Q : Unit → sProp 𝕄} :
    iprop(Par d L X A M fz b qx qz sx sa so (256 * wid L + 32 * k + 16 * b) k ∗ (kLoc d L ↦[Finset.univ]{fullShare} fm)
        ∗ Transfers.MayWaits (th d L) ι₀ O ∗ Owed d L O W)
      ⊢ iprop((iprop(Par d L X A M fz b qx qz sx sa so n' (k + 1) ∗ (kLoc d L ↦[Finset.univ]{fullShare} fm) ∗ Owed d L O W)
            -∗ wp frame (wpE (defs₀ (F := F)) 𝒱₀ (th d L) none) Set.univ kk Q)
          -∗ wp frame (wpE (defs₀ (F := F)) 𝒱₀ (th d L) none) Set.univ (halfProg L b hb sx sa so om hm loop oo ho of hf kk) Q) := by
  unfold halfProg
  iintro ⟨HP, Hm, #Hmw, HO⟩ Hk
  iapply (wp_awaits d L X A M fz hb) $$ [HP HO]
  · isplitl [HP]; · iexact HP
    isplitr [HO]; · iexact Hmw
    iexact HO
  unfold Operands OutInv
  iintro ⟨⟨Hbx, Hba, Hx, Ha⟩, ⟨⟨%g0, Hbo⟩, ⟨%fo, %hfo, Ho⟩, Ht, Hz⟩, Hsx, Hsa, Hso, HO⟩
  iapply (wp_load_rect 𝒱₀ (th d L) none Set.univ (m := kW) (r := Rect.unit (s := S144) om S16.size hm) (Finset.subset_univ _)) $$ Hm
  iintro Hm
  rw [wp_bind]
  iapply (wp_wand_r frame (wpE (defs₀ (F := F)) 𝒱₀ (th d L) none) Set.univ)
  isplitl [Hbx Hba Hbo]
  · iapply (hloop (rowsAt X (256 * wid L + 32 * k + 16 * b)) (rowsAt A (256 * wid L + 32 * k + 16 * b)) _)
    unfold Planes
    isplitl [Hbx]; · iexact Hbx
    isplitl [Hba]; · iexact Hba
    iexists g0
    isplitr [Hbo]
    · ipureintro
      intro j _ hj
      omega
    · iexact Hbo
  iintro %_ HP
  unfold Planes
  icases HP with ⟨Hbx, Hba, %g, %hg, Hbo⟩
  iapply (wp_send d L X A M fz (q := qz) hb hk hoo hfo hg (fun j hj => (mask_lane M hfm hom j hj (by omega)).trans (by congr 2; omega))) $$ [Hbo Ho Ht Hz Hso]
  · isplitl [Hbo]; · iexact Hbo
    isplitl [Ho]; · iexact Ho
    isplitl [Ht]; · iexact Ht
    isplitl [Hz]; · iexact Hz
    iexact Hso
  iintro Ho
  iapply (wp_fetches d L X A hb hof) $$ [Hbx Hba Hx Ha Hsx Hsa]
  · isplitl [Hbx]; · iexact Hbx
    isplitl [Hba]; · iexact Hba
    isplitl [Hx]; · iexact Hx
    isplitl [Ha]; · iexact Ha
    isplitl [Hsx]; · iexact Hsx
    iexact Hsa
  iintro ⟨Hx, Ha⟩
  iapply Hk
  unfold Par
  isplitr [Hm HO]
  · isplitl [Hx]; · iexact Hx
    isplitl [Ha]; · iexact Ha
    iexact Ho
  isplitl [Hm]; · iexact Hm
  iexact HO

end Cert.Proof.Attack

end
-- ==== Proof.Tile.lean ====
/-
  The whole tile: its part of the mask fetched, the semaphores of the outgoing transfers primed with two copies into the
  discarded array, the first blocks' operands fetched, eight trips of the outer loop, the last transfers awaited.
-/
module

public import proofs.«01_k».proof.Proof.Trip

@[expose] public section

noncomputable section

namespace Cert.Proof.Attack

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## What the tile owns -/

/-- The seven semaphores of the tile's copies. -/
def sems : Finset (DmaSem sig) :=
  {cc0_scratch3.sem, cc0_scratch4.sem, cc0_scratch5.sem, cc0_scratch6.sem, cc0_scratch7.sem, cc0_scratch8.sem, cc0_scoped0.sem}

theorem sems_scoped : ∀ s ∈ sems, (SemLoc.dma s : SemLoc sig).isScoped .scVector = true := by decide

theorem sem_injective : Function.Injective fun s : DmaSem sig => ((th d L, SemLoc.dma s) : GSem nD τ sig) :=
  fun _ _ e => SemLoc.dma.inj (congrArg Prod.snd e)

/-- The cells of the seven semaphores. -/
def cells : Finset (GSem nD τ sig) := sems.map ⟨fun s => (th d L, SemLoc.dma s), sem_injective d L⟩

theorem cells_owned : cells d L ⊆ ownCells (th d L) := by
  intro g hg
  obtain ⟨s, hs, rfl⟩ := Finset.mem_map.1 hg
  exact mem_ownCells.mpr ⟨rfl, sems_scoped s hs⟩

theorem ownSems0_V :
    (ownSems0 (th d L) : sProp 𝕄)
      = iprop((semVal (th d L, SemLoc.dma cc0_scratch3.sem) 0 ∗ semVal (th d L, SemLoc.dma cc0_scratch4.sem) 0
          ∗ semVal (th d L, SemLoc.dma cc0_scratch5.sem) 0 ∗ semVal (th d L, SemLoc.dma cc0_scratch6.sem) 0
          ∗ semVal (th d L, SemLoc.dma cc0_scratch7.sem) 0 ∗ semVal (th d L, SemLoc.dma cc0_scratch8.sem) 0
          ∗ semVal (th d L, SemLoc.dma cc0_scoped0.sem) 0)
        ∗ bigSep (ownCells (th d L) \ cells d L) fun g => semVal g 0) := by
  unfold ownSems0
  rw [SparseCore.bigSep_sdiff_split' (cells_owned d L), cells, bigSep_map, sems,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem ownBufs_V :
    (ownBufs (th d L) : sProp 𝕄)
      = iprop((∃ f, kLoc d L ↦{fullShare} f) ∗ (∃ f, bLoc d L ↦{fullShare} f) ∗ (∃ f, zLoc d L ↦{fullShare} f)
        ∗ bigSep ((((ownRefs (τ := τ) (th d L).2).erase ((th d L).2.devRef cc0_scratch0)).erase ((th d L).2.devRef cc0_scratch1)).erase
            ((th d L).2.devRef cc0_scratch2)) fun b => iprop(∃ f, ((d, b) : Loc nD τ sig) ↦{fullShare} f)) := by
  unfold ownBufs
  refine (SparseCore.bigSep_erase' (SparseCore.Cfg.mem_ownRefs_of_owner (p := (th d L).2) (b := (th d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := (th d L).2) (b := (th d L).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := (th d L).2) (b := (th d L).2.devRef cc0_scratch2) rfl⟩⟩)]

/-! ## The block scratch's planes -/

theorem planes_disjoint : ∀ p ∈ (Finset.univ : Finset (Fin 6)), ∀ p' ∈ (Finset.univ : Finset (Fin 6)), p ≠ p' → Disjoint (plane p.val) (plane p'.val) := by
  intro p _ p' _ h
  refine Finset.disjoint_left.mpr fun j hj hj' => h (Fin.ext ?_)
  rw [mem_plane] at hj hj'
  omega

theorem planes_cover : (Finset.univ : Finset (Fin 6)).biUnion (fun p => plane p.val) = Finset.univ := by
  refine Finset.eq_univ_of_forall fun j => Finset.mem_biUnion.mpr ⟨⟨(j 0).val, (j 0).isLt⟩, Finset.mem_univ _, mem_plane.2 rfl⟩

theorem six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

/-- A plane at some contents. -/
def somePlane (p : ℕ) : sProp 𝕄 := iprop(∃ g, bLoc d L ↦[plane p]{fullShare} g)

theorem planes_split (g : S6x16x1024.Idx → F .f32) :
    (bLoc d L ↦[Finset.univ]{fullShare} g : sProp 𝕄)
      = iprop((bLoc d L ↦[plane 0]{fullShare} g) ∗ (bLoc d L ↦[plane 1]{fullShare} g) ∗ (bLoc d L ↦[plane 2]{fullShare} g)
        ∗ (bLoc d L ↦[plane 3]{fullShare} g) ∗ (bLoc d L ↦[plane 4]{fullShare} g) ∗ (bLoc d L ↦[plane 5]{fullShare} g)) := by
  have h : (bLoc d L ↦[(Finset.univ : Finset (Fin 6)).biUnion fun p => plane p.val]{fullShare} g : sProp 𝕄) = _ :=
    pointsTo_biUnion (ℓ := bLoc d L) Finset.univ (fun p : Fin 6 => plane p.val) planes_disjoint
  rw [six, planes_cover] at h
  exact h

theorem planes_join :
    iprop(somePlane (F := F) d L 0 ∗ somePlane d L 1 ∗ somePlane d L 2 ∗ somePlane d L 3 ∗ somePlane d L 4 ∗ somePlane d L 5)
      ⊢ (iprop(∃ g, bLoc d L ↦[Finset.univ]{fullShare} g) : sProp 𝕄) := by
  unfold somePlane
  iintro ⟨⟨%g0, H0⟩, ⟨%g1, H1⟩, ⟨%g2, H2⟩, ⟨%g3, H3⟩, ⟨%g4, H4⟩, ⟨%g5, H5⟩⟩
  have h : bigSep (Finset.univ : Finset (Fin 6)) _ ⊢ (_ : sProp 𝕄) := pointsTo_biUnion_join (ℓ := bLoc d L) (q := fullShare) Finset.univ
    (fun p : Fin 6 => plane p.val) (fun p : Fin 6 => (![g0, g1, g2, g3, g4, g5] : Fin 6 → S6x16x1024.Idx → F .f32) p) g0 planes_disjoint
  rw [six, planes_cover] at h
  ihave H := h $$ [H0 H1 H2 H3 H4 H5]
  · isplitl [H0]; · iexact H0
    isplitl [H1]; · iexact H1
    isplitl [H2]; · iexact H2
    isplitl [H3]; · iexact H3
    isplitl [H4]; · iexact H4
    iexact H5
  icases H with ⟨%g, -, H⟩
  iexists g
  iexact H

/-! ## The mask's part -/

/-- The tile's part of the mask as a copy's source, and the part of the mask scratch it goes to. -/
abbrev mSl : Memref sig .scVector .hbm S128 .f32 := mW.slice (Rect.unit (s := S4096) (k0_off1 L) S128.size (k0_off1_inb L)) (fun _ => rfl)
abbrev kSl : Memref sig .scVector .vmem S128 .f32 := kW.slice (Rect.unit (s := S144) ![0] S128.size inb_S144_S128_0) (fun _ => rfl)

abbrev nMask : ℕ := kSl.view.dmaCredit

theorem mask_write (M : S4096.Idx → F .f32) (fk : S144.Idx → F .f32) :
    MaskOK M (wid L) (kSl.view.write (Elt F) fk ((mSl L).view.read (Elt F) M) Finset.univ) := by
  intro j hj
  have he : kSl.view.emb (ValueIdx.ix1 (⟨(j 0).val, hj⟩ : Fin 128)) = j := by
    funext a
    obtain rfl : a = 0 := Subsingleton.elim (α := Fin 1) a 0
    exact Fin.ext (show 0 + 1 * (j 0).val = (j 0).val by omega)
  refine (congrArg _ he.symm).trans ((View.write_emb_of_mem (v := kSl.view) (Val := Elt F) fk _ (Finset.mem_univ _)).trans ?_)
  show M ((mSl L).view.emb (ValueIdx.ix1 (⟨(j 0).val, hj⟩ : Fin 128))) = _
  congr 1
  funext a
  obtain rfl : a = 0 := Subsingleton.elim (α := Fin 1) a 0
  refine Fin.ext ?_
  show k0_off1 L 0 + 1 * (j 0).val = (128 * wid L + (j 0).val) % 4096
  have h0 := (L 0).isLt
  have h1 := (L 1).isLt
  have h0' : (L 0).val < 2 := h0
  have h1' : (L 1).val < 16 := h1
  rw [k0_off1_eq]
  show 256 * (L 1).val + 128 * (L 0).val + 1 * (j 0).val = _
  simp only [wid]
  rw [Nat.mod_eq_of_lt] <;> omega

variable (X A : S8192x1024.Idx → F .f32) (M : S4096.Idx → F .f32) (fz : S16x1024.Idx → F .f32)

/-- The mask's copy and its wait. -/
theorem wp_mask {O : CellTallies nD τ sig (HIx 1)} {W : Waits sig (HIx 1)} {q : PosShare TreeShare} {fk : S144.Idx → F .f32}
    {h1 h2 h3 h4 h5} {kk : TProg (F := F) L} {Q : Unit → sProp 𝕄} :
    iprop((mLoc d ↦[Finset.univ]{q} M) ∗ (kLoc d L ↦[Finset.univ]{fullShare} fk) ∗ semVal (th d L, SemLoc.dma cc0_scoped0.sem) 0
        ∗ Transfers.MayWaits (th d L) ι₀ O ∗ Owed d L O W)
      ⊢ iprop((iprop((mLoc d ↦[Finset.univ]{q} M) ∗ (∃ f, ⌜MaskOK M (wid L) f⌝ ∗ (kLoc d L ↦[Finset.univ]{fullShare} f))
              ∗ semVal (th d L, SemLoc.dma cc0_scoped0.sem) 0 ∗ Owed d L O W)
            -∗ wp frame (wpE (defs₀ (F := F)) 𝒱₀ (th d L) none) Set.univ kk Q)
          -∗ wp frame (wpE (defs₀ (F := F)) 𝒱₀ (th d L) none) Set.univ
            (.op (.enqueueDma (mSl L) (.here kSl) (.dma cc0_scoped0.sem) h1 h2 h3) fun _ =>
              .op (.waitDma2 cc0_scoped0.sem (mSl L) kSl h4 h5) fun _ => kk) Q) := by
  iintro ⟨Hm, Hk, Hs, #Hmw, HO⟩ Hcont
  ihave Hm' := (pointsTo_split_subset (Finset.subset_univ (mSl L).view.set)).1 $$ Hm
  icases Hm' with ⟨Hm, Hr⟩
  iapply (Transfers.wp_dmaLocal countersEmb 𝒱₀ (th d L) none (src := mSl L) (dst := kSl) (Sd := Finset.univ) ι₀ nMask rfl
    (View.dmaCredit_pos _ (by decide)) (Finset.subset_univ _)) $$ [Hm Hk Hs]
  · isplitl [Hm]; · iexact Hm
    isplitl [Hk]; · iexact Hk
    iexact Hs
  iintro Hfl
  iapply (wp_await d L (rfl : kSl.view.dmaCredit = nMask) (R := iprop((mLoc d ↦[Finset.univ]{q} M)
    ∗ (∃ f, ⌜MaskOK M (wid L) f⌝ ∗ (kLoc d L ↦[Finset.univ]{fullShare} f))))) $$ [Hfl HO Hr]
  · isplitl [Hfl Hr]
    · unfold Pend
      iexists _
      isplitl [Hfl]; · iexact Hfl
      iintro ⟨Hk, Hm⟩
      isplitl [Hm Hr]
      · iapply (pointsTo_split_subset (Finset.subset_univ (mSl L).view.set)).2
        isplitl [Hm] <;> iassumption
      · iexists (kSl.view.write (Elt F) fk ((mSl L).view.read (Elt F) M) Finset.univ)
        isplitr [Hk]
        · ipureintro; exact mask_write L M fk
        · iexact Hk
    isplitr [HO]; · iexact Hmw
    iexact HO
  iintro ⟨⟨Hm, Hk⟩, Hs, HO⟩
  iapply Hcont
  isplitl [Hm]; · iexact Hm
  isplitl [Hk]; · iexact Hk
  isplitl [Hs]; · iexact Hs
  iexact HO

/-! ## Priming the outgoing transfers' semaphores -/

/-- Sixteen rows of the discarded array as a copy's end. -/
abbrev tSl (o : Fin 2 → ℕ) (h : ∀ a, o a + S16x1024.size a ≤ S1024x1024.size a) : Memref sig .scVector .hbm S16x1024 .f32 :=
  tW.slice (Rect.unit (s := S1024x1024) o S16x1024.size h) (fun _ => rfl)

theorem tSl_subset {o : Fin 2 → ℕ} {h} {w b : ℕ} (ho : o = ![16 * (2 * w + b), 0]) : (tSl o h).view.set ⊆ tSet w b := by
  intro j hj
  obtain ⟨y, -, rfl⟩ := Finset.mem_map.1 hj
  have hy : (y 0).val < 16 := (y 0).isLt
  rw [mem_tSet]
  show (o 0 + 1 * (y 0).val) / 16 = _
  rw [ho]
  show (16 * (2 * w + b) + 1 * (y 0).val) / 16 = _
  omega

theorem wp_prime {b : ℕ} {q : PosShare TreeShare} {g : S6x16x1024.Idx → F .f32} {fo : S8192x1024.Idx → F .f32} {ft : S1024x1024.Idx → F .f32}
    {o : Fin 2 → ℕ} {h} (ho : o = ![16 * (2 * wid L + b), 0]) {s : DmaSem sig} {h1 h2 h3} {kk : PUnit → TProg (F := F) L} {Q : Unit → sProp 𝕄} :
    iprop((bLoc d L ↦[plane (4 + b)]{fullShare} g) ∗ (oLoc d ↦[oSet (wid L) b]{fullShare} fo) ∗ (tLoc d ↦[tSet (wid L) b]{fullShare} ft)
        ∗ (zLoc d L ↦[Finset.univ]{q} fz) ∗ semVal (th d L, SemLoc.dma s) 0)
      ⊢ iprop((Pend d L s nOut (OutInv d L X A M fz b q 0) -∗ wp frame (wpE (defs₀ (F := F)) 𝒱₀ (th d L) none) Set.univ (kk ⟨⟩) Q)
          -∗ wp frame (wpE (defs₀ (F := F)) 𝒱₀ (th d L) none) Set.univ
            (.op (.enqueueDma zW (.here (tSl o h)) (.dma s) h1 h2 h3) kk) Q) := by
  have hz : zW.view.set = Finset.univ := View.set_whole _
  iintro ⟨Hb, Ho, Ht, Hz, Hs⟩ Hk
  iapply (Transfers.wp_dmaLocal countersEmb 𝒱₀ (th d L) none (src := zW) (dst := tSl o h) (Sd := tSet (wid L) b) ι₀ nOut rfl
    (View.dmaCredit_pos _ (by decide)) (tSl_subset ho)) $$ [Ht Hz Hs]
  · isplitl [Hz]
    · rw [hz]; iexact Hz
    isplitl [Ht]; · iexact Ht
    iexact Hs
  iintro Hfl
  iapply Hk
  unfold Pend OutInv
  iexists _
  isplitl [Hfl]; · iexact Hfl
  rw [hz]
  iintro ⟨Ht, Hz⟩
  isplitl [Hb]; · iexists g; iexact Hb
  isplitl [Ho]
  · iexists fo
    isplitr [Ho]
    · ipureintro
      intro j hj hlt
      rw [mem_oSet] at hj
      omega
    · iexact Ho
  isplitl [Ht]
  · iexists _; iexact Ht
  iexact Hz

/-! ## The outer loop -/

/-- Before trip `k`: both parities' next operands and last results under way, and the mask's part. -/
def OuterInv (fm : S144.Idx → F .f32) (qa qb qc qd : PosShare TreeShare) (O : CellTallies nD τ sig (HIx 1)) (W : Waits sig (HIx 1)) (k : ℕ) : sProp 𝕄 :=
  iprop(Par d L X A M fz 0 qa qc cc0_scratch3.sem cc0_scratch5.sem cc0_scratch7.sem (256 * wid L + 16 * min (2 * k) 15) k
    ∗ Par d L X A M fz 1 qb qd cc0_scratch4.sem cc0_scratch6.sem cc0_scratch8.sem (256 * wid L + 16 * min (2 * k + 1) 15) k
    ∗ (kLoc d L ↦[Finset.univ]{fullShare} fm) ∗ Transfers.MayWaits (th d L) ι₀ O ∗ Owed d L O W)

theorem wp_trip (fm : S144.Idx → F .f32) (hfm : MaskOK M (wid L) fm) (qa qb qc qd : PosShare TreeShare)
    (O : CellTallies nD τ sig (HIx 1)) (W : Waits sig (HIx 1)) (v3 : BitVec 32) (t : Fin k0_t1_loop.trips) (u : Unit) :
    OuterInv d L X A M fz fm qa qb qc qd O W t.val
      ⊢ (wp frame (wpE (defs₀ (F := F)) 𝒱₀ (th d L) none) Set.univ (body1 L v3 t u)
          fun _ => OuterInv d L X A M fz fm qa qb qc qd O W (t.val + 1) : sProp 𝕄) := by
  have ht : t.val < 8 := t.isLt
  rw [body1_eq]
  unfold OuterInv
  rw [show 256 * wid L + 16 * min (2 * t.val) 15 = 256 * wid L + 32 * t.val + 16 * 0 by omega,
    show 256 * wid L + 16 * min (2 * t.val + 1) 15 = 256 * wid L + 32 * t.val + 16 * 1 by omega]
  iintro ⟨H0, H1, Hm, #Hmw, HO⟩
  iapply (wp_half d L X A M fz (O := O) (W := W) (b := 0) (k := t.val) (n' := 256 * wid L + 16 * min (2 * (t.val + 1)) 15) _ ht
    (by rw [k0_off4_eq]; rfl) (fun xf af w => wp_loop2 d L t v3 (dbl t) xf af w)
    (by rw [k0_off53_eq]; congr 1; simp only [wid]; omega) (by rw [k0_off54_eq]; congr 1; simp only [wid]; omega) hfm) $$ [H0 Hm HO]
  · isplitl [H0]; · iexact H0
    isplitl [Hm]; · iexact Hm
    isplitr [HO]; · iexact Hmw
    iexact HO
  iintro ⟨H0, Hm, HO⟩
  iapply (wp_half d L X A M fz (O := O) (W := W) (b := 1) (k := t.val) (n' := 256 * wid L + 16 * min (2 * (t.val + 1) + 1) 15) _ ht
    (by rw [k0_off55_eq]) (fun xf af w => wp_loop3 d L t v3 _ xf af w)
    (by rw [k0_off104_eq]; congr 1; simp only [wid]; omega) (by rw [k0_off105_eq]; congr 1; simp only [wid]; omega) hfm) $$ [H1 Hm HO]
  · isplitl [H1]; · iexact H1
    isplitl [Hm]; · iexact Hm
    isplitr [HO]; · iexact Hmw
    iexact HO
  iintro ⟨H1, Hm, HO⟩
  rw [wp_pure]
  imodintro
  isplitl [H0]; · iexact H0
  isplitl [H1]; · iexact H1
  isplitl [Hm]; · iexact Hm
  isplitr [HO]; · iexact Hmw
  iexact HO

/-! ## The whole tile -/

/-- The tile's program on its arrays. -/
abbrev tileProg : TProg (F := F) L :=
  cc0_sc_kernel (F := F) L xW (Memref.isWhole_whole _) aW (Memref.isWhole_whole _) mW (Memref.isWhole_whole _) oW (Memref.isWhole_whole _)
    tW (Memref.isWhole_whole _) kW (Memref.isWhole_whole _) bW (Memref.isWhole_whole _) zW (Memref.isWhole_whole _)
    cc0_scratch3 cc0_scratch4 cc0_scratch5 cc0_scratch6 cc0_scratch7 cc0_scratch8 cc0_scoped0

/-- The first row of the tile, as the kernel computes it. -/
abbrev firstRow : BitVec 32 :=
  Scalar.muli (Scalar.addi (Scalar.muli (BitVec.ofNat 32 (L 1).val) 2#32) (BitVec.ofNat 32 (L 0).val)) 256#32

set_option maxRecDepth 65536 in
theorem tileProg_eq :
    tileProg (F := F) L
      = .op (.enqueueDma (mSl L) (.here kSl) (.dma cc0_scoped0.sem) (View.wordExact_bits rfl) (View.wordExact_bits rfl) ⟨Or.inl rfl, trivial⟩) fun _ =>
        .op (.waitDma2 cc0_scoped0.sem (mSl L) kSl (View.wordExact_bits rfl) (View.wordExact_bits rfl)) fun _ =>
        .op (.enqueueDma zW (.here (tSl (k0_off2 L 0#32) (k0_off2_inb L 0))) (.dma cc0_scratch7.sem) (Memref.isWhole_whole _).wordExact (View.wordExact_bits rfl)
          ⟨Or.inl rfl, trivial⟩) fun _ =>
        .op (.enqueueDma zW (.here (tSl (k0_off2 L 1#32) (k0_off2_inb L 1))) (.dma cc0_scratch8.sem) (Memref.isWhole_whole _).wordExact (View.wordExact_bits rfl)
          ⟨Or.inl rfl, trivial⟩) fun _ =>
        fetchProg L 0 (by decide) cc0_scratch3.sem cc0_scratch5.sem (k0_off3 L 0#32) (k0_off3_inb L 0) <|
        fetchProg L 1 (by decide) cc0_scratch4.sem cc0_scratch6.sem (k0_off3 L 1#32) (k0_off3_inb L 1) <|
        Scf.Loop.for k0_t1_loop k0_t1_ok ⟨⟩ (body1 L (firstRow L)) >>= fun _ =>
        awaitProg L 0 (by decide) cc0_scratch3.sem cc0_scratch5.sem cc0_scratch7.sem <|
        awaitProg L 1 (by decide) cc0_scratch4.sem cc0_scratch6.sem cc0_scratch8.sem <|
        pure ⟨⟩ := by
  unfold tileProg
  simp only [cc0_sc_kernel_eq_skeleton]
  unfold cc0_sc_kernel_skel
  simp only [k0_part17_eq_skeleton, k0_part18_eq_skeleton, k0_part19_eq_skeleton]
  unfold k0_part17_skel k0_part18_skel k0_part19_skel awaitProg fetchProg
  simp only [bind_assoc]
  rfl

/-- What the tile gets: shares of the operands, its rows of the output and of the discarded array. -/
def Go (q : PosShare TreeShare) : sProp 𝕄 :=
  iprop((xLoc d ↦[Finset.univ]{q} X) ∗ (aLoc d ↦[Finset.univ]{q} A) ∗ (mLoc d ↦[Finset.univ]{q} M)
    ∗ (∃ f, oLoc d ↦[oSet (wid L) 0]{fullShare} f) ∗ (∃ f, oLoc d ↦[oSet (wid L) 1]{fullShare} f)
    ∗ (∃ f, tLoc d ↦[tSet (wid L) 0]{fullShare} f) ∗ (∃ f, tLoc d ↦[tSet (wid L) 1]{fullShare} f))

/-- What the tile gives back: its shares, and its rows of the output at the kernel's result. -/
def Td (q : PosShare TreeShare) : sProp 𝕄 :=
  iprop((xLoc d ↦[Finset.univ]{q} X) ∗ (aLoc d ↦[Finset.univ]{q} A) ∗ (mLoc d ↦[Finset.univ]{q} M)
    ∗ (oLoc d ↦[oSet (wid L) 0]{fullShare} out X A M) ∗ (oLoc d ↦[oSet (wid L) 1]{fullShare} out X A M))

/-- After all trips the parity's rows hold the kernel's result. -/
theorem outInv_done {b : ℕ} {q : PosShare TreeShare} :
    OutInv d L X A M fz b q 8
      ⊢ (iprop(somePlane d L (4 + b) ∗ (oLoc d ↦[oSet (wid L) b]{fullShare} out X A M) ∗ (zLoc d L ↦[Finset.univ]{q} fz)) : sProp 𝕄) := by
  unfold OutInv somePlane
  iintro ⟨Hb, ⟨%f, %hf, Ho⟩, -, Hz⟩
  isplitl [Hb]; · iexact Hb
  isplitl [Ho]
  · iapply (Entails.of_eq (pointsTo_congr fun j hj => hf j hj (by rw [mem_oSet] at hj; omega))) $$ Ho
  iexact Hz

theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp ∗ Go d L X A M q ∗ scopedBufs (th d L) ∗ scopedSems0 (th d L) ∗ owes (th d L) O W)
      ⊢ wp frame (wpE (defs₀ (F := F)) 𝒱₀ (th d L) none) Set.univ (tileProg L)
          fun _ => iprop(Td d L X A M q ∗ scopedBufs (th d L) ∗ scopedSems0 (th d L)
            ∗ ∃ W', ⌜∀ p ∈ W', p ∈ W ∨ p.2 = none⌝ ∗ owes (th d L) O W') := by
  have h0' : (L 0).val < 2 := (L 0).isLt
  have h1' : (L 1).val < 16 := (L 1).isLt
  rw [tileProg_eq, (K (F := F)).scopedBufs_V hF d (cV L) (jV L), SparseCore.Cfg.scopedSems0_V (Val := Elt F) d (cV L) (jV L), ownSems0_V, ownBufs_V]
  unfold Go Td
  iintro ⟨#Hlv, -, ⟨Hx, Ha, Hm, ⟨%f0, Ho0⟩, ⟨%f1, Ho1⟩, ⟨%t0, Ht0⟩, ⟨%t1, Ht1⟩⟩, ⟨⟨%fk, Hk⟩, ⟨%fb, Hb⟩, ⟨%fz, Hz⟩, Hbufs⟩,
    ⟨⟨Hs3, Hs4, Hs5, Hs6, Hs7, Hs8, Hr0⟩, Hsems⟩, HO⟩
  ihave #Hmw := (show levAts (K (F := F)).L (K (F := F)).lev ⊢ Transfers.MayWaits (th d L) ι₀ O from
    (K (F := F)).mayWaits_none (thr := th d L) hO) $$ Hlv
  ihave HO := (show owes (th d L) O W ⊢ (Owed d L O W : sProp 𝕄) by
    unfold Owed
    iintro HO
    iexists W
    isplitr [HO]
    · ipureintro; exact fun p hp => Or.inl hp
    · iexact HO) $$ HO
  ihave Hb := (Entails.of_eq (planes_split d L fb)) $$ Hb
  icases Hb with ⟨Hb0, Hb1, Hb2, Hb3, Hb4, Hb5⟩
  ihave Hz := (pointsTo_share (PosShare.mem_left_op_right fullShare)).1 $$ Hz
  icases Hz with ⟨Hz0, Hz1⟩
  ihave Hx := (pointsTo_share (PosShare.mem_left_op_right q)).1 $$ Hx
  icases Hx with ⟨Hx0, Hx1⟩
  ihave Ha := (pointsTo_share (PosShare.mem_left_op_right q)).1 $$ Ha
  icases Ha with ⟨Ha0, Ha1⟩
  -- the mask's part
  iapply (wp_mask d L M (O := O) (W := W)) $$ [Hm Hk Hr0 HO]
  · isplitl [Hm]; · iexact Hm
    isplitl [Hk]; · iexact Hk
    isplitl [Hr0]; · iexact Hr0
    isplitr [HO]; · iexact Hmw
    iexact HO
  iintro ⟨Hm, ⟨%fm, %hfm, Hk⟩, Hr0, HO⟩
  -- the semaphores of the outgoing transfers
  iapply (wp_prime d L X A M fz (b := 0) ((k0_off2_eq L 0).trans (by congr 1; simp only [wid]; show _ + 16 * 0 = _; omega))) $$ [Hb4 Ho0 Ht0 Hz0 Hs7]
  · isplitl [Hb4]; · iexact Hb4
    isplitl [Ho0]; · iexact Ho0
    isplitl [Ht0]; · iexact Ht0
    isplitl [Hz0]; · iexact Hz0
    iexact Hs7
  iintro Hp0
  iapply (wp_prime d L X A M fz (b := 1) ((k0_off2_eq L 1).trans (by congr 1; simp only [wid]; show _ + 16 * 1 = _; omega))) $$ [Hb5 Ho1 Ht1 Hz1 Hs8]
  · isplitl [Hb5]; · iexact Hb5
    isplitl [Ho1]; · iexact Ho1
    isplitl [Ht1]; · iexact Ht1
    isplitl [Hz1]; · iexact Hz1
    iexact Hs8
  iintro Hp1
  -- the first operands
  iapply (wp_fetches d L X A (n := 256 * wid L + 16 * min (2 * 0) 15) _ ((k0_off3_eq L 0).trans (by congr 1; simp only [wid]; show _ + 16 * 0 = _; omega))) $$ [Hb0 Hb2 Hx0 Ha0 Hs3 Hs5]
  · isplitl [Hb0]; · iexact Hb0
    isplitl [Hb2]; · iexact Hb2
    isplitl [Hx0]; · iexact Hx0
    isplitl [Ha0]; · iexact Ha0
    isplitl [Hs3]; · iexact Hs3
    iexact Hs5
  iintro ⟨Hx0, Ha0⟩
  iapply (wp_fetches d L X A (n := 256 * wid L + 16 * min (2 * 0 + 1) 15) _ ((k0_off3_eq L 1).trans (by congr 1; simp only [wid]; show _ + 16 * 1 = _; omega))) $$ [Hb1 Hb3 Hx1 Ha1 Hs4 Hs6]
  · isplitl [Hb1]; · iexact Hb1
    isplitl [Hb3]; · iexact Hb3
    isplitl [Hx1]; · iexact Hx1
    isplitl [Ha1]; · iexact Ha1
    isplitl [Hs4]; · iexact Hs4
    iexact Hs6
  iintro ⟨Hx1, Ha1⟩
  -- the trips
  rw [wp_bind]
  iapply (Scf.wp_for frame (wpE (defs₀ (F := F)) 𝒱₀ (th d L) none) Set.univ k0_t1_loop.lb k0_t1_loop.ub k0_t1_loop.st k0_t1_ok ⟨⟩
    (body1 L (firstRow L)) (fun k _ => OuterInv d L X A M fz fm q.left q.right fullShare.left fullShare.right O W k)
    (fun t u => wp_trip d L X A M fz fm hfm q.left q.right fullShare.left fullShare.right O W (firstRow L) t u))
  isplitl [Hx0 Ha0 Hp0 Hx1 Ha1 Hp1 Hk HO]
  · unfold OuterInv Par
    isplitl [Hx0 Ha0 Hp0]
    · isplitl [Hx0]; · iexact Hx0
      isplitl [Ha0]; · iexact Ha0
      iexact Hp0
    isplitl [Hx1 Ha1 Hp1]
    · isplitl [Hx1]; · iexact Hx1
      isplitl [Ha1]; · iexact Ha1
      iexact Hp1
    isplitl [Hk]; · iexact Hk
    isplitr [HO]; · iexact Hmw
    iexact HO
  iintro %_ HI
  ihave HI := (show OuterInv d L X A M fz fm q.left q.right fullShare.left fullShare.right O W k0_t1_loop.trips
    ⊢ OuterInv d L X A M fz fm q.left q.right fullShare.left fullShare.right O W 8 from Entails.of_eq rfl) $$ HI
  unfold OuterInv
  icases HI with ⟨HP0, HP1, Hk, -, HO⟩
  -- the last transfers
  iapply (wp_awaits d L X A M fz (O := O) (W := W)) $$ [HP0 HO]
  · isplitl [HP0]; · iexact HP0
    isplitr [HO]; · iexact Hmw
    iexact HO
  iintro ⟨HA0, HR0, Hs3, Hs5, Hs7, HO⟩
  iapply (wp_awaits d L X A M fz (O := O) (W := W)) $$ [HP1 HO]
  · isplitl [HP1]; · iexact HP1
    isplitr [HO]; · iexact Hmw
    iexact HO
  iintro ⟨HA1, HR1, Hs4, Hs6, Hs8, HO⟩
  unfold Operands
  icases HA0 with ⟨Hb0, Hb2, Hx0, Ha0⟩
  icases HA1 with ⟨Hb1, Hb3, Hx1, Ha1⟩
  ihave HR0 := (outInv_done d L X A M fz) $$ HR0
  icases HR0 with ⟨Hb4, Ho0, Hz0⟩
  ihave HR1 := (outInv_done d L X A M fz) $$ HR1
  icases HR1 with ⟨Hb5, Ho1, Hz1⟩
  ihave Hx := (pointsTo_share (PosShare.mem_left_op_right q)).2 $$ [Hx0 Hx1]
  · isplitl [Hx0] <;> iassumption
  ihave Ha := (pointsTo_share (PosShare.mem_left_op_right q)).2 $$ [Ha0 Ha1]
  · isplitl [Ha0] <;> iassumption
  ihave Hz := (pointsTo_share (PosShare.mem_left_op_right fullShare)).2 $$ [Hz0 Hz1]
  · isplitl [Hz0] <;> iassumption
  ihave Hb := (planes_join (F := F) d L) $$ [Hb0 Hb1 Hb2 Hb3 Hb4 Hb5]
  · unfold somePlane
    isplitl [Hb0]; · iexists _; iexact Hb0
    isplitl [Hb1]; · iexists _; iexact Hb1
    isplitl [Hb2]; · iexists _; iexact Hb2
    isplitl [Hb3]; · iexists _; iexact Hb3
    isplitl [Hb4]; · iexact Hb4
    iexact Hb5
  rw [wp_pure]
  imodintro
  isplitl [Hx Ha Hm Ho0 Ho1]
  · isplitl [Hx]; · iexact Hx
    isplitl [Ha]; · iexact Ha
    isplitl [Hm]; · iexact Hm
    isplitl [Ho0]; · iexact Ho0
    iexact Ho1
  isplitl [Hk Hb Hz Hbufs]
  · isplitl [Hk]; · iexists fm; iexact Hk
    isplitl [Hb]; · iexact Hb
    isplitl [Hz]; · iexists fz; iexact Hz
    iexact Hbufs
  isplitl [Hs3 Hs4 Hs5 Hs6 Hs7 Hs8 Hr0 Hsems]
  · isplitr [Hsems]
    · isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hr0
    iexact Hsems
  unfold Owed
  iexact HO

end Cert.Proof.Attack

end
-- ==== Proof.Split.lean ====
/-
  What the call hands to each SparseCore and each tile, and how the whole arrays split into it: the operands by thirty-two
  shares, the output and the discarded array by their rows, two sets for each of the thirty-two tiles.
-/
module

public import proofs.«01_k».proof.Proof.Tile

@[expose] public section

noncomputable section

namespace Cert.Proof.Attack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD)

/-! ## The tiles' numbers -/

/-- Tile `s` of SparseCore `c`. -/
def tile (c : Fin (grid0.bound 0)) (s : Fin (grid0.bound 1)) : grid0.Coords :=
  fun | 0 => c | 1 => s | ⟨_ + 2, h⟩ => absurd h (Nat.not_lt.2 (Nat.le_add_left _ _))

/-- Tile `w`'s share of what every tile reads. -/
def shareOf (w : ℕ) : PosShare TreeShare := ShareLeaves.leaf 5 fullShare ⟨w % 32, Nat.mod_lt _ (by decide)⟩

/-- The thirty-two tiles by SparseCore and subcore are the thirty-two by number. -/
theorem tiles_eq (Ψ : ℕ → sProp 𝕄) :
    (bigSep (Finset.univ : Finset (Fin 2)) fun c => bigSep (Finset.univ : Finset (Fin 16)) fun i => Ψ (2 * i.val + c.val))
      = bigSep (Finset.univ : Finset (Fin 32)) fun w => Ψ w.val := by
  rw [bigSep_univ_equiv ((Equiv.prodComm (Fin 2) (Fin 16)).trans finProdFinEquiv) (fun w : Fin 32 => Ψ w.val), bigSep_univ_prod]
  refine bigSep_congr fun c _ => bigSep_congr fun i _ => congrArg Ψ ?_
  show 2 * i.val + c.val = c.val + 2 * i.val
  omega

/-! ## Splitting an array's elements and shares among the tiles -/

/-- The shares of the thirty-two tiles are the whole. -/
theorem shares_eq {ℓ : Loc nD τ sig} (f : Buf (Elt F) ℓ) :
    (ℓ ↦[Finset.univ]{fullShare} f : sProp 𝕄) = bigSep (Finset.univ : Finset (Fin 32)) fun w => ℓ ↦[Finset.univ]{shareOf w.val} f := by
  rw [ShareLeaves.pointsTo_leaves Finset.univ f 5 fullShare]
  refine bigSep_congr fun w _ => ?_
  show _ = (ℓ ↦[Finset.univ]{ShareLeaves.leaf 5 fullShare ⟨w.val % 32, _⟩} f : sProp 𝕄)
  congr 2
  exact Fin.ext (Nat.mod_eq_of_lt w.isLt).symm

/-- Two sets of elements per tile, disjoint and covering the array, are the whole. -/
theorem sets_eq {ℓ : Loc nD τ sig} (S : ℕ → ℕ → Finset (Idx ℓ)) (p : Idx ℓ → Fin 32 × Fin 2)
    (hS : ∀ (w : Fin 32) (b : Fin 2) (j : Idx ℓ), j ∈ S w.val b.val ↔ p j = (w, b)) (f : Buf (Elt F) ℓ) :
    (ℓ ↦[Finset.univ]{fullShare} f : sProp 𝕄)
      = bigSep (Finset.univ : Finset (Fin 32)) fun w => iprop((ℓ ↦[S w.val 0]{fullShare} f) ∗ (ℓ ↦[S w.val 1]{fullShare} f)) := by
  have hc : (Finset.univ : Finset (Fin 32 × Fin 2)).biUnion (fun t => S t.1.val t.2.val) = Finset.univ :=
    Finset.eq_univ_of_forall fun j => Finset.mem_biUnion.mpr ⟨p j, Finset.mem_univ _, (hS _ _ j).2 rfl⟩
  have h : (ℓ ↦[(Finset.univ : Finset (Fin 32 × Fin 2)).biUnion fun t => S t.1.val t.2.val]{fullShare} f : sProp 𝕄) = _ :=
    pointsTo_biUnion Finset.univ (fun t : Fin 32 × Fin 2 => S t.1.val t.2.val) fun t _ t' _ ht =>
      Finset.disjoint_left.mpr fun j hj hj' => ht (((hS _ _ j).1 hj).symm.trans ((hS _ _ j).1 hj'))
  rw [hc, bigSep_univ_prod] at h
  rw [h]
  refine bigSep_congr fun w _ => ?_
  rw [show (Finset.univ : Finset (Fin 2)) = {0, 1} by decide, SparseCore.bigSep_insert' (by decide), bigSep_singleton]
  rfl

theorem oPts_eq (f : S8192x1024.Idx → F .f32) :
    (oLoc d ↦[Finset.univ]{fullShare} f : sProp 𝕄)
      = bigSep (Finset.univ : Finset (Fin 32)) fun w => iprop((oLoc d ↦[oSet w.val 0]{fullShare} f) ∗ (oLoc d ↦[oSet w.val 1]{fullShare} f)) :=
  sets_eq (ℓ := oLoc d) oSet
    (fun j : S8192x1024.Idx => (⟨(j 0).val / 256, by have h : (j 0).val < 8192 := (j 0).isLt; omega⟩, ⟨(j 0).val / 16 % 2, by omega⟩))
    (fun w b j => by rw [mem_oSet, Prod.ext_iff, Fin.ext_iff, Fin.ext_iff]) f

theorem tPts_eq (f : S1024x1024.Idx → F .f32) :
    (tLoc d ↦[Finset.univ]{fullShare} f : sProp 𝕄)
      = bigSep (Finset.univ : Finset (Fin 32)) fun w => iprop((tLoc d ↦[tSet w.val 0]{fullShare} f) ∗ (tLoc d ↦[tSet w.val 1]{fullShare} f)) :=
  sets_eq (ℓ := tLoc d) tSet
    (fun j : S1024x1024.Idx => (⟨(j 0).val / 32, by have h : (j 0).val < 1024 := (j 0).isLt; omega⟩, ⟨(j 0).val / 16 % 2, by omega⟩))
    (fun w b j => by
      rw [mem_tSet, Prod.ext_iff, Fin.ext_iff, Fin.ext_iff]
      show _ ↔ (j 0).val / 32 = w.val ∧ (j 0).val / 16 % 2 = b.val
      omega) f

/-! ## What the call hands over -/

variable (X A : S8192x1024.Idx → F .f32) (M : S4096.Idx → F .f32)

/-- What the thirty-two tiles get is the operands, the output and the discarded array whole. -/
theorem gos_intro (fo : S8192x1024.Idx → F .f32) (ft : S1024x1024.Idx → F .f32) :
    iprop((xLoc d ↦[Finset.univ]{fullShare} X) ∗ (aLoc d ↦[Finset.univ]{fullShare} A) ∗ (mLoc d ↦[Finset.univ]{fullShare} M)
        ∗ (oLoc d ↦[Finset.univ]{fullShare} fo) ∗ (tLoc d ↦[Finset.univ]{fullShare} ft))
      ⊢ (bigSep (Finset.univ : Finset (Fin 2)) fun c => bigSep (Finset.univ : Finset (Fin 16)) fun i =>
          Go d (tile c i) X A M (shareOf (wid (tile c i))) : sProp 𝕄) := by
  refine BI.Entails.trans ?_ (Entails.of_eq (tiles_eq (F := F) fun w => iprop((xLoc d ↦[Finset.univ]{shareOf w} X) ∗ (aLoc d ↦[Finset.univ]{shareOf w} A)
    ∗ (mLoc d ↦[Finset.univ]{shareOf w} M) ∗ (∃ f, oLoc d ↦[oSet w 0]{fullShare} f) ∗ (∃ f, oLoc d ↦[oSet w 1]{fullShare} f)
    ∗ (∃ f, tLoc d ↦[tSet w 0]{fullShare} f) ∗ (∃ f, tLoc d ↦[tSet w 1]{fullShare} f))).symm)
  rw [shares_eq (F := F) (ℓ := xLoc d) X, shares_eq (F := F) (ℓ := aLoc d) A, shares_eq (F := F) (ℓ := mLoc d) M, oPts_eq, tPts_eq,
    ← bigSep_sep', ← bigSep_sep', ← bigSep_sep', ← bigSep_sep']
  refine bigSep_mono fun w _ => ?_
  change (iprop(_ ∗ _) : sProp 𝕄) ⊢ _
  iintro ⟨Hx, Ha, Hm, ⟨Ho0, Ho1⟩, Ht0, Ht1⟩
  isplitl [Hx]; · iexact Hx
  isplitl [Ha]; · iexact Ha
  isplitl [Hm]; · iexact Hm
  isplitl [Ho0]; · iexists fo; iexact Ho0
  isplitl [Ho1]; · iexists fo; iexact Ho1
  isplitl [Ht0]; · iexists ft; iexact Ht0
  iexists ft; iexact Ht1

/-- What they give back is the operands whole and the output at the kernel's result. -/
theorem tds_elim :
    (bigSep (Finset.univ : Finset (Fin 2)) fun c => bigSep (Finset.univ : Finset (Fin 16)) fun i =>
          Td d (tile c i) X A M (shareOf (wid (tile c i))) : sProp 𝕄)
      ⊢ iprop((xLoc d ↦[Finset.univ]{fullShare} X) ∗ (aLoc d ↦[Finset.univ]{fullShare} A) ∗ (mLoc d ↦[Finset.univ]{fullShare} M)
        ∗ (oLoc d ↦[Finset.univ]{fullShare} out X A M)) := by
  refine BI.Entails.trans (Entails.of_eq (tiles_eq (F := F) fun w => iprop((xLoc d ↦[Finset.univ]{shareOf w} X) ∗ (aLoc d ↦[Finset.univ]{shareOf w} A)
    ∗ (mLoc d ↦[Finset.univ]{shareOf w} M) ∗ (oLoc d ↦[oSet w 0]{fullShare} out X A M) ∗ (oLoc d ↦[oSet w 1]{fullShare} out X A M)))) ?_
  rw [shares_eq (F := F) (ℓ := xLoc d) X, shares_eq (F := F) (ℓ := aLoc d) A, shares_eq (F := F) (ℓ := mLoc d) M, oPts_eq,
    ← bigSep_sep', ← bigSep_sep', ← bigSep_sep']
  exact BI.Entails.refl _

end Cert.Proof.Attack

end
-- ==== Proof.Launch.lean ====
/-
  The launch: the call's obligations from the tile's run, @main's host operations around the call, and the program's run —
  every argument unchanged, the result's value, every semaphore back at zero.
-/
module

public import proofs.«01_k».proof.Proof.Split

@[expose] public section

noncomputable section

namespace Cert.Proof.Attack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's arrays and host operations -/

abbrev dr (b : Ref sig .tc) : DevRef τ sig := Proc.devRef .tc b

abbrev opX : HloOp τ sig (Elt F) := StableHlo.reshape main_arg0 main_v0 (rfl : (.f32 : EltTy) = .f32) shapeCasts_S2x2048x2048_S8192x1024
abbrev opA : HloOp τ sig (Elt F) := StableHlo.reshape main_arg1 main_v1 (rfl : (.f32 : EltTy) = .f32) shapeCasts_S2x2048x2048_S8192x1024
abbrev opM : HloOp τ sig (Elt F) := StableHlo.reshape main_arg2 main_v2 (rfl : (.i1 : EltTy) = .i1) shapeCasts_S2x2048_S4096
abbrev opF : HloOp τ sig (Elt F) :=
  StableHlo.unary main_v2 main_v3 (uitofp .f32 : (⟨S4096, .i1⟩ : BufTy).Contents (Elt F) → (⟨S4096, .f32⟩ : BufTy).Contents (Elt F))
abbrev opO : HloOp τ sig (Elt F) := StableHlo.reshape main_v4_0 main_v5 (rfl : (.f32 : EltTy) = .f32) shapeCasts_S8192x1024_S2x2048x2048

/-- Every array of @main but the discarded one, and all of them. -/
abbrev kept : Finset (DevRef τ sig) :=
  {dr main_arg0, dr main_arg1, dr main_arg2, dr main_v0, dr main_v1, dr main_v2, dr main_v3, dr main_v4_0, dr main_v5}
abbrev arrays : Finset (DevRef τ sig) := insert (dr main_v4_1) kept

/-- The arrays' contents: at launch, before the call, after the call, at the end. -/
def V0 (d : Dev nD) : Valuation τ sig (Elt F) := fun b => m (d, b)
def V4 (d : Dev nD) : Valuation τ sig (Elt F) := opF.result (opM.result (opA.result (opX.result (V0 m d))))
def xV (d : Dev nD) : S8192x1024.Idx → F .f32 := V4 m d (dr main_v0)
def aV (d : Dev nD) : S8192x1024.Idx → F .f32 := V4 m d (dr main_v1)
def mV (d : Dev nD) : S4096.Idx → F .f32 := V4 m d (dr main_v3)
def V5 (d : Dev nD) : Valuation τ sig (Elt F) := Function.update (V4 m d) (dr main_v4_0) (out (xV m d) (aV m d) (mV m d))
def V6 (d : Dev nD) : Valuation τ sig (Elt F) := opO.result (V5 m d)

theorem V5_of_ne (d : Dev nD) {b : DevRef τ sig} (h : b ≠ dr main_v4_0) : V5 m d b = V4 m d b := Function.update_of_ne h _ _
theorem V5_o (d : Dev nD) : V5 m d (dr main_v4_0) = out (xV m d) (aV m d) (mV m d) := Function.update_self _ _ _

theorem held_kept (d : Dev nD) (W : Valuation τ sig (Elt F)) :
    (held (T d) kept W : sProp 𝕄)
      = iprop(((SparseCore.T d).loc main_arg0 ↦{fullShare} W (dr main_arg0)) ∗ ((SparseCore.T d).loc main_arg1 ↦{fullShare} W (dr main_arg1))
        ∗ ((SparseCore.T d).loc main_arg2 ↦{fullShare} W (dr main_arg2)) ∗ (xLoc d ↦{fullShare} W (dr main_v0)) ∗ (aLoc d ↦{fullShare} W (dr main_v1))
        ∗ ((SparseCore.T d).loc main_v2 ↦{fullShare} W (dr main_v2)) ∗ (mLoc d ↦{fullShare} W (dr main_v3))
        ∗ (oLoc d ↦{fullShare} W (dr main_v4_0)) ∗ ((SparseCore.T d).loc main_v5 ↦{fullShare} W (dr main_v5))) := by
  unfold held kept
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem held_arrays (d : Dev nD) (W : Valuation τ sig (Elt F)) :
    (held (T d) arrays W : sProp 𝕄) = iprop((tLoc d ↦{fullShare} W (dr main_v4_1)) ∗ held (T d) kept W) := by
  unfold held arrays
  rw [SparseCore.bigSep_insert' (by decide)]

/-- What the launch hands @main is its arrays at the launch contents. -/
theorem unscoped_held (d : Dev nD) : (unscopedBufs d (fun b => m ((SparseCore.T d).loc b)) : sProp 𝕄) = held (T d) arrays (V0 m d) := by
  unfold unscopedBufs held
  rw [show arrays = (Finset.univ.filter fun b : Ref sig .tc => ¬ b.isScoped).map ⟨dr, fun _ _ h => Proc.devRef_injective _ h⟩ from by decide, bigSep_map]
  rfl

/-! ## The call's obligations -/

/-- What the call takes and hands back: each SparseCore its tiles' parts, each tile its own. -/
def P : (K (F := F)).Pay (nD := nD) (Val := Elt F) (Name := ℕ) (U := UU) where
  go := fun q d c i => match q with
    | 0 => Go d (tile c i) (xV m d) (aV m d) (mV m d) (shareOf (wid (tile c i)))
  td := fun q d c i => match q with
    | 0 => Td d (tile c i) (xV m d) (aV m d) (mV m d) (shareOf (wid (tile c i)))
  st := fun q d c => match q with
    | 0 => bigSep (Finset.univ : Finset (Fin 16)) fun i => Go d (tile c i) (xV m d) (aV m d) (mV m d) (shareOf (wid (tile c i)))
  dn := fun q d c => match q with
    | 0 => bigSep (Finset.univ : Finset (Fin 16)) fun i => Td d (tile c i) (xV m d) (aV m d) (mV m d) (shareOf (wid (tile c i)))
  x := fun _ _ => iprop(emp)

instance go_storable (d : Dev nD) (L : grid0.Coords) (X A : S8192x1024.Idx → F .f32) (M : S4096.Idx → F .f32) (q : PosShare TreeShare) :
    BI.Storable (upEmb : UEmb _ 𝕄) (Go d L X A M q) := by
  unfold Go; infer_instance

instance td_storable (d : Dev nD) (L : grid0.Coords) (X A : S8192x1024.Idx → F .f32) (M : S4096.Idx → F .f32) (q : PosShare TreeShare) :
    BI.Storable (upEmb : UEmb _ 𝕄) (Td d L X A M q) := by
  unfold Td; infer_instance

theorem tiles_storable (Φ : Fin 16 → sProp 𝕄) (h : ∀ i, BI.Storable (upEmb : UEmb _ 𝕄) (Φ i)) :
    BI.Storable (upEmb : UEmb _ 𝕄) (bigSep (Finset.univ : Finset (Fin 16)) Φ) := BI.Storable.bigSep _ _ _

instance P_storable : (P (F := F) m).IsStorable where
  st q d c := match q with
    | 0 => tiles_storable (fun i => Go d (tile c i) (xV m d) (aV m d) (mV m d) (shareOf (wid (tile c i))))
      fun i => go_storable d (tile c i) (xV m d) (aV m d) (mV m d) (shareOf (wid (tile c i)))
  dn q d c := match q with
    | 0 => tiles_storable (fun i => Td d (tile c i) (xV m d) (aV m d) (mV m d) (shareOf (wid (tile c i))))
      fun i => td_storable d (tile c i) (xV m d) (aV m d) (mV m d) (shareOf (wid (tile c i)))
  go q d c i := match q with
    | 0 => go_storable d (tile c i) (xV m d) (aV m d) (mV m d) (shareOf (wid (tile c i)))
  td q d c i := match q with
    | 0 => td_storable d (tile c i) (xV m d) (aV m d) (mV m d) (shareOf (wid (tile c i)))

theorem defs₀_vector (c : Fin τ.nSC) (s : Fin τ.nSub) :
    defs₀ (F := F) (.scVector c s) 0 () = SparseCore.onTile hcore0 hsub0 (fun c s => tileProg (tile c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (tile ⟨_, hci.1⟩ ⟨_, hci.2⟩) (xV m d) (aV m d) (mV m d) facts _ O W hO).trans (wp_mono frame _ _ fun _ => obl_post)

theorem vecSplit : (K (F := F)).VecSplit' (P m) 0 := by
  intro d c
  show (bigSep (Finset.univ : Finset (Fin 16)) fun i => Go d (tile c i) (xV m d) (aV m d) (mV m d) (shareOf (wid (tile c i))) : sProp 𝕄)
    ⊢ |={Set.univ}=> iprop((bigSep (Finset.univ : Finset (Fin 16)) fun i => Go d (tile c i) (xV m d) (aV m d) (mV m d) (shareOf (wid (tile c i))))
      ∗ ((bigSep (Finset.univ : Finset (Fin 16)) fun i => Td d (tile c i) (xV m d) (aV m d) (mV m d) (shareOf (wid (tile c i))))
        -∗ bigSep (Finset.univ : Finset (Fin 16)) fun i => Td d (tile c i) (xV m d) (aV m d) (mV m d) (shareOf (wid (tile c i)))))
  iintro H
  imodintro
  isplitl [H]
  · iexact H
  iintro H
  iexact H

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [he]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), he]
  iempintro

/-! ## @main on the TensorCore -/

theorem st_eq (d : Dev nD) : (bigSep Finset.univ fun c : Fin ((K (F := F)).nCore 0) => (P m).st 0 d c)
    = bigSep (Finset.univ : Finset (Fin 2)) fun c => bigSep (Finset.univ : Finset (Fin 16)) fun i =>
        Go d (tile c i) (xV m d) (aV m d) (mV m d) (shareOf (wid (tile c i))) := rfl
theorem dn_eq (d : Dev nD) : (bigSep Finset.univ fun c : Fin ((K (F := F)).nCore 0) => (P m).dn 0 d c)
    = bigSep (Finset.univ : Finset (Fin 2)) fun c => bigSep (Finset.univ : Finset (Fin 16)) fun i =>
        Td d (tile c i) (xV m d) (aV m d) (mV m d) (shareOf (wid (tile c i))) := rfl

/-- What @main leaves: its arrays but the discarded one, at their final contents. -/
abbrev FIN (d : Dev nD) : sProp 𝕄 := held (T d) kept (V6 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := opX) (S := arrays)
    (show ({dr main_arg0, dr main_v0} : Finset (DevRef τ sig)) ⊆ arrays by decide) (V := V0 m d)) $$ [Hb Hh]
  · isplitl [Hb] <;> iassumption
  iintro ⟨Hb, Hh⟩
  rw [wp_ret]; imodintro
  iapply (wp_hlo_within 𝒱 (SparseCore.T d) none Set.univ (op := opA) (S := arrays)
    (show ({dr main_arg1, dr main_v1} : Finset (DevRef τ sig)) ⊆ arrays by decide)) $$ [Hb Hh]
  · isplitl [Hb] <;> iassumption
  iintro ⟨Hb, Hh⟩
  rw [wp_ret]; imodintro
  iapply (wp_hlo_within 𝒱 (SparseCore.T d) none Set.univ (op := opM) (S := arrays)
    (show ({dr main_arg2, dr main_v2} : Finset (DevRef τ sig)) ⊆ arrays by decide)) $$ [Hb Hh]
  · isplitl [Hb] <;> iassumption
  iintro ⟨Hb, Hh⟩
  rw [wp_ret]; imodintro
  iapply (wp_hlo_within 𝒱 (SparseCore.T d) none Set.univ (op := opF) (S := arrays)
    (show ({dr main_v2, dr main_v3} : Finset (DevRef τ sig)) ⊆ arrays by decide)) $$ [Hb Hh]
  · isplitl [Hb] <;> iassumption
  iintro ⟨Hb, Hh⟩
  rw [wp_ret]; imodintro
  ihave Hh := (Entails.of_eq (show (held (T d) arrays (opF.result (opM.result (opA.result (opX.result (V0 m d))))) : sProp 𝕄)
    = iprop((tLoc d ↦{fullShare} V4 m d (dr main_v4_1)) ∗ held (T d) kept (V4 m d)) from held_arrays d (V4 m d))) $$ Hh
  icases Hh with ⟨Ht, Hh⟩
  ihave Hh := (Entails.of_eq (held_kept d (V4 m d))) $$ Hh
  icases Hh with ⟨H0, H1, H2, Hx, Ha, Hm2, Hm, Ho, Hr⟩
  iapply ((K (F := F)).wp_run (D (F := F)) 𝒱 (EH := EH) (P := P m) κ d 0) $$ [-]
  isplitr; · iexact Hctx
  isplitl [Hst]; · iexact Hst
  isplitl [Hx Ha Hm Ho Ht]
  · rw [st_eq]
    iapply (gos_intro d (xV m d) (aV m d) (mV m d) _ _)
    isplitl [Hx]; · iexact Hx
    isplitl [Ha]; · iexact Ha
    isplitl [Hm]; · iexact Hm
    isplitl [Ho]; · iexact Ho
    iexact Ht
  iintro ⟨Hst, Hdn⟩
  ihave Hdn := (Entails.of_eq (dn_eq m d)) $$ Hdn
  ihave Hdn := (tds_elim d (xV m d) (aV m d) (mV m d)) $$ Hdn
  icases Hdn with ⟨Hx, Ha, Hm, Ho⟩
  iapply (wp_hlo_within 𝒱 (SparseCore.T d) none Set.univ (op := opO) (S := kept)
    (show ({dr main_v4_0, dr main_v5} : Finset (DevRef τ sig)) ⊆ kept by decide) (V := V5 m d)) $$ [Hb H0 H1 H2 Hx Ha Hm2 Hm Ho Hr]
  · isplitl [Hb]; · iexact Hb
    rw [held_kept, V5_o, V5_of_ne m d (show dr main_arg0 ≠ dr main_v4_0 by decide), V5_of_ne m d (show dr main_arg1 ≠ dr main_v4_0 by decide),
      V5_of_ne m d (show dr main_arg2 ≠ dr main_v4_0 by decide), V5_of_ne m d (show dr main_v0 ≠ dr main_v4_0 by decide),
      V5_of_ne m d (show dr main_v1 ≠ dr main_v4_0 by decide), V5_of_ne m d (show dr main_v2 ≠ dr main_v4_0 by decide),
      V5_of_ne m d (show dr main_v3 ≠ dr main_v4_0 by decide), V5_of_ne m d (show dr main_v5 ≠ dr main_v4_0 by decide)]
    isplitl [H0]; · iexact H0
    isplitl [H1]; · iexact H1
    isplitl [H2]; · iexact H2
    isplitl [Hx]; · iexact Hx
    isplitl [Ha]; · iexact Ha
    isplitl [Hm2]; · iexact Hm2
    isplitl [Hm]; · iexact Hm
    isplitl [Ho]; · iexact Ho
    iexact Hr
  iintro ⟨Hb, Hh⟩
  rw [wp_ret]; imodintro; imodintro
  isplitl [Hst]; · iexact Hst
  isplitl [Hh]; · iexact Hh
  isplitl [Hb] <;> iassumption

/-! ## The program's run -/

/-- The result, and the arguments as they were. -/
def fq (d : Dev nD) (s' : Phys nD τ sig (Elt F)) : Prop :=
  s'.mem.mem ((SparseCore.T d).loc main_v5) = V6 m d (dr main_v5)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

/-- No host operation and no call writes an argument. -/
theorem V6_arg (d : Dev nD) (b : DevRef τ sig) (h : b ∉ ({dr main_v0, dr main_v1, dr main_v2, dr main_v3, dr main_v4_0, dr main_v5} : Finset (DevRef τ sig))) :
    V6 m d b = m (d, b) := by
  simp only [Finset.mem_insert, Finset.mem_singleton, not_or] at h
  obtain ⟨h0, h1, h2, h3, h4, h5⟩ := h
  unfold V6
  rw [HloOp.result_of_not_mem _ _ (show b ∉ ({dr main_v5} : Finset (DevRef τ sig)) from fun e => h5 (Finset.mem_singleton.1 e)), V5_of_ne m d h4]
  unfold V4
  rw [HloOp.result_of_not_mem _ _ (show b ∉ ({dr main_v3} : Finset (DevRef τ sig)) from fun e => h3 (Finset.mem_singleton.1 e)),
    HloOp.result_of_not_mem _ _ (show b ∉ ({dr main_v2} : Finset (DevRef τ sig)) from fun e => h2 (Finset.mem_singleton.1 e)),
    HloOp.result_of_not_mem _ _ (show b ∉ ({dr main_v1} : Finset (DevRef τ sig)) from fun e => h1 (Finset.mem_singleton.1 e)),
    HloOp.result_of_not_mem _ _ (show b ∉ ({dr main_v0} : Finset (DevRef τ sig)) from fun e => h0 (Finset.mem_singleton.1 e))]
  rfl

theorem hfin (d : Dev nD) (s' : Phys nD τ sig (Elt F)) : iprop(FIN m d ∗ SI s') ⊢ (⌜fq m d s'⌝ : sProp 𝕄) := by
  unfold FIN
  rw [held_kept, V6_arg m d (dr main_arg0) (by decide), V6_arg m d (dr main_arg1) (by decide), V6_arg m d (dr main_arg2) (by decide)]
  iintro ⟨⟨H0, H1, H2, -, -, -, -, -, Hr⟩, HSI⟩
  ihave H := (persistent_entails_right (SI_pointsTo_agree (st := s') (ℓ := (SparseCore.T d).loc main_v5) (I := Finset.univ) (q := fullShare))) $$ [HSI Hr]
  · isplitl [HSI] <;> iassumption
  icases H with ⟨%hr, HSI, -⟩
  ihave H := (persistent_entails_right (SI_pointsTo_agree (st := s') (ℓ := (SparseCore.T d).loc main_arg0) (I := Finset.univ) (q := fullShare))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare))) $$ [HSI H1]
  · isplitl [HSI] <;> iassumption
  icases H with ⟨%h1, HSI, -⟩
  ihave H := (SI_pointsTo_agree (st := s') (ℓ := (SparseCore.T d).loc main_arg2) (I := Finset.univ) (q := fullShare)) $$ [HSI H2]
  · isplitl [HSI] <;> iassumption
  icases H with %h2
  ipureintro
  exact ⟨funext fun i => hr i (Finset.mem_univ i), funext fun i => h0 i (Finset.mem_univ i), funext fun i => h1 i (Finset.mem_univ i),
    funext fun i => h2 i (Finset.mem_univ i)⟩

/-- What the run's final state is. -/
def QC : PUnit × MemSt nD τ sig (Elt F) → Prop := fun r =>
  (∀ c : Dev nD, r.2.mem ((SparseCore.T c).loc main_v5) = V6 m c (dr main_v5)
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Attack

end
-- ==== Proof.Value.lean ====
/-
  The value at the ideal instance: the flattened kernel's result, read back at an entry of the original array, is the
  reference's select.
-/
module

public import proofs.«01_k».proof.Proof.Launch
public import proofs.«01_k».proof.Proof.Gen.ReferenceIdeal.Run

@[expose] public section

noncomputable section

namespace Cert.Proof.Attack

open Cert.KernelIdeal Cert.KernelIdeal.Gen

open Idealize.ShloMosaic Idealize.SL.Sem
open Idealize.ShloMosaic.StableHlo (reshape_result unary_result)

variable (m : (ℓ : Loc nD τ sig) → Buf (Elt Ideal) ℓ)

/-! ## Indices -/

/-- Flattening and unflattening are inverse. -/
theorem unflatten_flatten (i : S2x2048x2048.Idx) :
    Shape.reshapeEquiv shapeCasts_S2x2048x2048_S8192x1024 (Shape.reshapeEquiv shapeCasts_S8192x1024_S2x2048x2048 i) = i := by
  apply Shape.reshapeEquiv_eq_of_rowMajor
  rw [Shape.rowMajor_reshapeEquiv]

/-- The mask's entry for the flattened row pair is the one of the original row. -/
theorem mask_entry (i : S2x2048x2048.Idx) :
    Shape.reshapeEquiv shapeCasts_S2x2048_S4096 (mrow (((Shape.reshapeEquiv shapeCasts_S8192x1024_S2x2048x2048 i : S8192x1024.Idx) 0).val / 2))
      = (ValueIdx.ix2 (i 0) (i 1) : S2x2048.Idx) := by
  have h := Shape.rowMajor_reshapeEquiv shapeCasts_S8192x1024_S2x2048x2048 i
  generalize (Shape.reshapeEquiv shapeCasts_S8192x1024_S2x2048x2048 i : S8192x1024.Idx) = j at h ⊢
  rw [Shape.rowMajor_val_two, Shape.rowMajor_val_three] at h
  apply Shape.reshapeEquiv_eq_of_rowMajor
  rw [Shape.rowMajor_val_two, Shape.rowMajor_val_one]
  have h0 : (i 0).val < 2 := (i 0).isLt
  have h1 : (i 1).val < 2048 := (i 1).isLt
  have h2 : (i 2).val < 2048 := (i 2).isLt
  have g1 : (j 1).val < 1024 := (j 1).isLt
  have h' : (j 0).val * 1024 + (j 1).val = ((i 0).val * 2048 + (i 1).val) * 2048 + (i 2).val := h
  show (i 0).val * 2048 + (i 1).val = (j 0).val / 2 % 4096
  omega

/-! ## What the call reads and what @main returns -/

theorem xV_eq (d : Dev nD) (j : S8192x1024.Idx) :
    xV m d j = m ((SparseCore.T d).loc main_arg0) (Shape.reshapeEquiv shapeCasts_S2x2048x2048_S8192x1024 j) := by
  unfold xV V4
  rw [HloOp.result_of_not_mem opF _ (show dr main_v0 ∉ ({dr main_v3} : Finset (DevRef τ sig)) by decide),
    HloOp.result_of_not_mem opM _ (show dr main_v0 ∉ ({dr main_v2} : Finset (DevRef τ sig)) by decide),
    HloOp.result_of_not_mem opA _ (show dr main_v0 ∉ ({dr main_v1} : Finset (DevRef τ sig)) by decide),
    reshape_result]
  rfl

theorem aV_eq (d : Dev nD) (j : S8192x1024.Idx) :
    aV m d j = m ((SparseCore.T d).loc main_arg1) (Shape.reshapeEquiv shapeCasts_S2x2048x2048_S8192x1024 j) := by
  unfold aV V4
  rw [HloOp.result_of_not_mem opF _ (show dr main_v1 ∉ ({dr main_v3} : Finset (DevRef τ sig)) by decide),
    HloOp.result_of_not_mem opM _ (show dr main_v1 ∉ ({dr main_v2} : Finset (DevRef τ sig)) by decide),
    reshape_result, HloOp.result_of_not_mem opX _ (show dr main_arg1 ∉ ({dr main_v0} : Finset (DevRef τ sig)) by decide)]
  rfl

theorem mV_eq (d : Dev nD) (j : S4096.Idx) :
    mV m d j = FloatOps.uitofp .f32 (m ((SparseCore.T d).loc main_arg2) (Shape.reshapeEquiv shapeCasts_S2x2048_S4096 j) : BitVec 1) := by
  unfold mV V4
  rw [unary_result, reshape_result, HloOp.result_of_not_mem opA _ (show dr main_arg2 ∉ ({dr main_v1} : Finset (DevRef τ sig)) by decide),
    HloOp.result_of_not_mem opX _ (show dr main_arg2 ∉ ({dr main_v0} : Finset (DevRef τ sig)) by decide)]
  rfl

theorem V6_result (d : Dev nD) (i : S2x2048x2048.Idx) :
    (V6 m d (dr main_v5) : S2x2048x2048.Idx → Ideal .f32) i
      = out (xV m d) (aV m d) (mV m d) (Shape.reshapeEquiv shapeCasts_S8192x1024_S2x2048x2048 i) := by
  unfold V6
  rw [reshape_result, V5_o]
  rfl

/-! ## The two values -/

/-- Adding the product with the mask's bit as a number is selecting by the bit. -/
theorem masked_add (b : BitVec 1) (x a : Ideal .f32) :
    FloatOps.addf x (FloatOps.mulf a (FloatOps.uitofp .f32 b)) = Scalar.select b (FloatOps.addf x a) x := by
  show (x + a * ((b.toNat : ℝ) : EReal) : EReal) = Scalar.select b (x + a : EReal) x
  rcases BitVec.eq_zero_or_eq_one b with h | h <;> subst h
  · rw [ValueIdx.select_zero]; simp
  · rw [ValueIdx.select_one]; simp

/-- The reference's value. -/
abbrev want (X A : S2x2048x2048.Idx → Ideal .f32) (M : S2x2048.Idx → BitVec 1) : S2x2048x2048.Idx → Ideal .f32 :=
  select (broadcastInDim Cert.ReferenceIdeal.S2x2048x2048 ![0, 1, 2] Cert.ReferenceIdeal.Gen.bcast_S2x2048x1_S2x2048x2048_0_1_2
    (broadcastInDim Cert.ReferenceIdeal.S2x2048x1 ![0, 1] Cert.ReferenceIdeal.Gen.bcast_S2x2048_S2x2048x1_0_1 M)) (addf X A) X

theorem want_apply (X A : S2x2048x2048.Idx → Ideal .f32) (M : S2x2048.Idx → BitVec 1) (i : S2x2048x2048.Idx) :
    want X A M i = Scalar.select (M (ValueIdx.ix2 (i 0) (i 1))) (FloatOps.addf (X i) (A i)) (X i) := by
  show Scalar.select (M _) _ _ = _
  congr 2
  funext a
  match a with
  | ⟨0, _⟩ => rfl
  | ⟨1, _⟩ => rfl

theorem value_eq (d : Dev nD) :
    (V6 m d (dr main_v5) : S2x2048x2048.Idx → Ideal .f32)
      = want (m ((SparseCore.T d).loc main_arg0)) (m ((SparseCore.T d).loc main_arg1)) (m ((SparseCore.T d).loc main_arg2)) := by
  funext i
  rw [V6_result, want_apply]
  unfold out
  rw [xV_eq, aV_eq, mV_eq, unflatten_flatten, mask_entry]
  exact masked_add _ _ _

end Cert.Proof.Attack

end
-- ==== Proof.lean ====
/-
  The certificate's claims from the run of `Proof/Launch.lean`, the value of `Proof/Value.lean` and the reference's run.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

instance elt_nonempty_bits (e : EltTy) : Nonempty (Elt Bits e) := by cases e <;> exact ⟨(0 : BitVec _)⟩
instance elt_nonempty_ideal (e : EltTy) : Nonempty (Elt Ideal e) := by
  cases e <;> first | exact ⟨(0 : BitVec _)⟩ | exact ⟨(0 : EReal)⟩

/-- The kernel's program is one text read at two kinds of float values, so its run is the one run. -/
theorem frame_kernel : Cert.quiescent_Kernel := fun m ρ _ =>
  (θ_run Cert.KernelIdeal.defs _ _).mono (fun _ h => ⟨fun c => (h.1 c).2, h.2⟩) (Attack.run_main (F := Bits) m ρ)

theorem frame_ideal : Cert.quiescent_KernelIdeal := fun m ρ _ =>
  (θ_run Cert.KernelIdeal.defs _ _).mono (fun _ h => ⟨fun c => (h.1 c).2, h.2⟩) (Attack.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both runs end at the select of the sum by the mask. -/
theorem same_value : Cert.algebraic_KernelIdeal_ReferenceIdeal := fun m ρ m' ρ' _ hm => by
  refine ⟨fun c => Attack.V6 m c (Attack.dr Cert.KernelIdeal.main_v5), ?_, ?_⟩
  · exact (θ_run Cert.KernelIdeal.defs _ _).mono (fun _ h => h.1) (Attack.run_main (F := Ideal) m ρ)
  · refine (θ_run Cert.ReferenceIdeal.defs _ _).mono (fun r h c => ⟨(h c).1.trans ?_, (h c).2⟩) (Cert.ReferenceIdeal.Value.run (F := Ideal) m' ρ')
    rw [(hm c).1, (hm c).2.1, (hm c).2.2]
    exact (Attack.value_eq m c).symm

theorem claim : Cert.Claim :=
  ⟨Cert.Kernel.Gen.facts, Cert.KernelIdeal.Gen.facts, Cert.ReferenceIdeal.Gen.facts,
    frame_kernel, frame_ideal, frame_reference, trivial, same_value⟩

end Cert.Proof

end
